-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S256x256 : Shape := ⟨2, ![256, 256]⟩
abbrev S4 : Shape := ⟨1, ![4]⟩
abbrev S_ : Shape := ⟨0, ![]⟩
abbrev S1x512x256 : Shape := ⟨3, ![1, 512, 256]⟩
abbrev S1x256 : Shape := ⟨2, ![1, 256]⟩
abbrev S256 : Shape := ⟨1, ![256]⟩
abbrev S1x1x256 : Shape := ⟨3, ![1, 1, 256]⟩
abbrev S1x3x256 : Shape := ⟨3, ![1, 3, 256]⟩
abbrev S1x509x256 : Shape := ⟨3, ![1, 509, 256]⟩
abbrev S1x2x256 : Shape := ⟨3, ![1, 2, 256]⟩
abbrev S1x510x256 : Shape := ⟨3, ![1, 510, 256]⟩
abbrev S1x511x256 : Shape := ⟨3, ![1, 511, 256]⟩
abbrev S512x256 : Shape := ⟨2, ![512, 256]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S256x256, .f32⟩
  | .hbm, ⟨3, _⟩ => ⟨S4x512x256, .f32⟩
  | .local _ .vmem, ⟨0, _⟩ => ⟨S4x512x256, .f32⟩
  | .local _ .vmem, ⟨1, _⟩ => ⟨S4x256, .f32⟩
  | .local _ .vmem, ⟨2, _⟩ => ⟨S256x256, .f32⟩
  | .local _ .vmem, ⟨3, _⟩ => ⟨S4x512x256, .f32⟩
  | .local _ .vmem, ⟨4, _⟩ => ⟨S4x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_31 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c2_i32_31
  let c4_i32_32 : BitVec 32 := 4#32
  let c0_i32_33 : BitVec 32 := 0#32
  let v48 : BitVec 1 := Scalar.cmpi .eq c4_i32_32 c0_i32_33
  let c1_i32_34 : BitVec 32 := 1#32
  let v49 : BitVec 32 := Scalar.select v48 c1_i32_34 c4_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let v58 : Index := Scalar.indexCast v57
  let c0_38 : Index := 0#32
  let c0_39 : Index := 0#32
  ![v58.toNat, 0, 0]
def k0_off2 (d0 : Dev nD) (c2_i32_31 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c2_i32_31
  let c4_i32_32 : BitVec 32 := 4#32
  let c0_i32_33 : BitVec 32 := 0#32
  let v48 : BitVec 1 := Scalar.cmpi .eq c4_i32_32 c0_i32_33
  let c1_i32_34 : BitVec 32 := 1#32
  let v49 : BitVec 32 := Scalar.select v48 c1_i32_34 c4_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c0_i32_52 : BitVec 32 := 0#32
  let c0_i32_53 : BitVec 32 := 0#32
  ![v57.toNat, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v47 : BitVec 32 := Scalar.addi v2 c2_i32_31
  let c4_i32_32 : BitVec 32 := 4#32
  let c0_i32_33 : BitVec 32 := 0#32
  let v48 : BitVec 1 := Scalar.cmpi .eq c4_i32_32 c0_i32_33
  let c1_i32_34 : BitVec 32 := 1#32
  let v49 : BitVec 32 := Scalar.select v48 c1_i32_34 c4_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_47 : BitVec 32 := 1#32
  let v100 : BitVec 32 := Scalar.muli v57 c1_i32_47
  let v101 : BitVec 32 := Scalar.addi c0_i32_48 v100
  v101.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v108 : BitVec 32 := Scalar.addi v2 c1_i32_54
  let c4_i32_55 : BitVec 32 := 4#32
  let c0_i32_56 : BitVec 32 := 0#32
  let v109 : BitVec 1 := Scalar.cmpi .eq c4_i32_55 c0_i32_56
  let c1_i32_57 : BitVec 32 := 1#32
  let v110 : BitVec 32 := Scalar.select v109 c1_i32_57 c4_i32_55
  let v111 : BitVec 32 := Scalar.remsi v108 v110
  let c0_i32_59 : BitVec 32 := 0#32
  let v113 : BitVec 1 := Scalar.cmpi .slt v111 c0_i32_59
  let c0_i32_60 : BitVec 32 := 0#32
  let v114 : BitVec 1 := Scalar.cmpi .slt v110 c0_i32_60
  let v115 : BitVec 1 := Scalar.xori v113 v114
  let c0_i32_58 : BitVec 32 := 0#32
  let v112 : BitVec 1 := Scalar.cmpi .ne v111 c0_i32_58
  let v116 : BitVec 1 := Scalar.andi v115 v112
  let v117 : BitVec 32 := Scalar.addi v111 v110
  let v118 : BitVec 32 := Scalar.select v116 v117 v111
  let c1_i32_71 : BitVec 32 := 1#32
  let v161 : BitVec 32 := Scalar.muli v118 c1_i32_71
  let v162 : BitVec 32 := Scalar.addi c0_i32_72 v161
  v162.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v169 : BitVec 32 := Scalar.addi v2 c3_i32_78
  let c4_i32_79 : BitVec 32 := 4#32
  let c0_i32_80 : BitVec 32 := 0#32
  let v170 : BitVec 1 := Scalar.cmpi .eq c4_i32_79 c0_i32_80
  let c1_i32_81 : BitVec 32 := 1#32
  let v171 : BitVec 32 := Scalar.select v170 c1_i32_81 c4_i32_79
  let v172 : BitVec 32 := Scalar.remsi v169 v171
  let c0_i32_83 : BitVec 32 := 0#32
  let v174 : BitVec 1 := Scalar.cmpi .slt v172 c0_i32_83
  let c0_i32_84 : BitVec 32 := 0#32
  let v175 : BitVec 1 := Scalar.cmpi .slt v171 c0_i32_84
  let v176 : BitVec 1 := Scalar.xori v174 v175
  let c0_i32_82 : BitVec 32 := 0#32
  let v173 : BitVec 1 := Scalar.cmpi .ne v172 c0_i32_82
  let v177 : BitVec 1 := Scalar.andi v176 v173
  let v178 : BitVec 32 := Scalar.addi v172 v171
  let v179 : BitVec 32 := Scalar.select v177 v178 v172
  let c1_i32_95 : BitVec 32 := 1#32
  let v222 : BitVec 32 := Scalar.muli v179 c1_i32_95
  let v223 : BitVec 32 := Scalar.addi c0_i32_96 v222
  v223.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v230 : Index := Scalar.indexCast v2
  let c0_102 : Index := 0#32
  let c0_103 : Index := 0#32
  ![v230.toNat, 0, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_202 : BitVec 32 := 0#32
  let c0_i32_203 : BitVec 32 := 0#32
  ![v2.toNat, 0, 0]
def k0_dev7 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_191 : BitVec 32 := 1#32
  let v345 : BitVec 32 := Scalar.addi v2 c1_i32_191
  let c4_i32_192 : BitVec 32 := 4#32
  let c0_i32_193 : BitVec 32 := 0#32
  let v346 : BitVec 1 := Scalar.cmpi .eq c4_i32_192 c0_i32_193
  let c1_i32_194 : BitVec 32 := 1#32
  let v347 : BitVec 32 := Scalar.select v346 c1_i32_194 c4_i32_192
  let v348 : BitVec 32 := Scalar.remsi v345 v347
  let c0_i32_196 : BitVec 32 := 0#32
  let v350 : BitVec 1 := Scalar.cmpi .slt v348 c0_i32_196
  let c0_i32_197 : BitVec 32 := 0#32
  let v351 : BitVec 1 := Scalar.cmpi .slt v347 c0_i32_197
  let v352 : BitVec 1 := Scalar.xori v350 v351
  let c0_i32_195 : BitVec 32 := 0#32
  let v349 : BitVec 1 := Scalar.cmpi .ne v348 c0_i32_195
  let v353 : BitVec 1 := Scalar.andi v352 v349
  let v354 : BitVec 32 := Scalar.addi v348 v347
  let v355 : BitVec 32 := Scalar.select v353 v354 v348
  let c1_i32_200 : BitVec 32 := 1#32
  let v356 : BitVec 32 := Scalar.muli v355 c1_i32_200
  let v357 : BitVec 32 := Scalar.addi c0_i32_201 v356
  v357.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_206 : BitVec 32 := 2#32
  let v364 : BitVec 32 := Scalar.addi v2 c2_i32_206
  let c4_i32_207 : BitVec 32 := 4#32
  let c0_i32_208 : BitVec 32 := 0#32
  let v365 : BitVec 1 := Scalar.cmpi .eq c4_i32_207 c0_i32_208
  let c1_i32_209 : BitVec 32 := 1#32
  let v366 : BitVec 32 := Scalar.select v365 c1_i32_209 c4_i32_207
  let v367 : BitVec 32 := Scalar.remsi v364 v366
  let c0_i32_211 : BitVec 32 := 0#32
  let v369 : BitVec 1 := Scalar.cmpi .slt v367 c0_i32_211
  let c0_i32_212 : BitVec 32 := 0#32
  let v370 : BitVec 1 := Scalar.cmpi .slt v366 c0_i32_212
  let v371 : BitVec 1 := Scalar.xori v369 v370
  let c0_i32_210 : BitVec 32 := 0#32
  let v368 : BitVec 1 := Scalar.cmpi .ne v367 c0_i32_210
  let v372 : BitVec 1 := Scalar.andi v371 v368
  let v373 : BitVec 32 := Scalar.addi v367 v366
  let v374 : BitVec 32 := Scalar.select v372 v373 v367
  let c1_i32_215 : BitVec 32 := 1#32
  let v375 : BitVec 32 := Scalar.muli v374 c1_i32_215
  let v376 : BitVec 32 := Scalar.addi c0_i32_216 v375
  v376.toNat
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_221 : BitVec 32 := 3#32
  let v383 : BitVec 32 := Scalar.addi v2 c3_i32_221
  let c4_i32_222 : BitVec 32 := 4#32
  let c0_i32_223 : BitVec 32 := 0#32
  let v384 : BitVec 1 := Scalar.cmpi .eq c4_i32_222 c0_i32_223
  let c1_i32_224 : BitVec 32 := 1#32
  let v385 : BitVec 32 := Scalar.select v384 c1_i32_224 c4_i32_222
  let v386 : BitVec 32 := Scalar.remsi v383 v385
  let c0_i32_226 : BitVec 32 := 0#32
  let v388 : BitVec 1 := Scalar.cmpi .slt v386 c0_i32_226
  let c0_i32_227 : BitVec 32 := 0#32
  let v389 : BitVec 1 := Scalar.cmpi .slt v385 c0_i32_227
  let v390 : BitVec 1 := Scalar.xori v388 v389
  let c0_i32_225 : BitVec 32 := 0#32
  let v387 : BitVec 1 := Scalar.cmpi .ne v386 c0_i32_225
  let v391 : BitVec 1 := Scalar.andi v390 v387
  let v392 : BitVec 32 := Scalar.addi v386 v385
  let v393 : BitVec 32 := Scalar.select v391 v392 v386
  let c1_i32_230 : BitVec 32 := 1#32
  let v394 : BitVec 32 := Scalar.muli v393 c1_i32_230
  let v395 : BitVec 32 := Scalar.addi c0_i32_231 v394
  v395.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x1024 : Shape := ⟨3, ![4, 512, 1024]⟩
abbrev S4x1024 : Shape := ⟨2, ![4, 1024]⟩
abbrev S1024x256 : Shape := ⟨2, ![1024, 256]⟩
abbrev S_ : Shape := ⟨0, ![]⟩
abbrev S4x3x1024 : Shape := ⟨3, ![4, 3, 1024]⟩
abbrev S4x515x1024 : Shape := ⟨3, ![4, 515, 1024]⟩
abbrev S1x1024 : Shape := ⟨2, ![1, 1024]⟩
abbrev S1024 : Shape := ⟨1, ![1024]⟩
abbrev S1x1x1024 : Shape := ⟨3, ![1, 1, 1024]⟩
abbrev S4x512x256 : Shape := ⟨3, ![4, 512, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x1024, .f32⟩
  | .hbm, ⟨2, _⟩ => ⟨S1024x256, .f32⟩
  | .hbm, ⟨3, _⟩ => ⟨S_, .f32⟩
  | .hbm, ⟨4, _⟩ => ⟨S4x3x1024, .f32⟩
  | .hbm, ⟨5, _⟩ => ⟨S4x515x1024, .f32⟩
  | .hbm, ⟨6, _⟩ => ⟨S_, .f32⟩
  | .hbm, ⟨7, _⟩ => ⟨S4x512x1024, .f32⟩
  | .hbm, ⟨8, _⟩ => ⟨S4x512x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S4x512x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x512x1024, .f32⟩
  | .hbm, ⟨20, _⟩ => ⟨S4x512x1024, .f32⟩
  | .hbm, ⟨21, _⟩ => ⟨S4x512x1024, .f32⟩
  | .hbm, ⟨22, _⟩ => ⟨S4x512x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x512x1024, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S4x512x1024, .f32⟩
  | .hbm, ⟨34, _⟩ => ⟨S4x512x1024, .f32⟩
  | .hbm, ⟨35, _⟩ => ⟨S4x512x1024, .f32⟩
  | .hbm, ⟨36, _⟩ => ⟨S4x512x1024, .f32⟩
  | .hbm, ⟨37, _⟩ => ⟨S4x512x1024, .f32⟩
  | .hbm, ⟨38, _⟩ => ⟨S_, .f32⟩
  | .hbm, ⟨39, _⟩ => ⟨S4x512x1024, .f32⟩
  | .hbm, ⟨40, _⟩ => ⟨S4x512x1024, .f32⟩
  | .hbm, ⟨41, _⟩ => ⟨S4x512x1024, .f32⟩
  | .hbm, ⟨42, _⟩ => ⟨S4x512x256, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.KernelIdealCells.lean ====
/-
# The exchange of the four devices: who pays which semaphore, and what each landing hands over

Every device `c` holds a quarter of the channels and computes, for every row `t` of the batch, its share of that
row's result (its CHUNK for `t`). The devices then exchange:

* entry: `c` raises the barrier of each of the other three by one and waits for three on its own; the raise of
  device `p = c - d` on `c`'s barrier (duty `d`) hands over the landing row `d` of `p`'s scratch, into which `c`
  will send;
* first exchange: for `e = 1, 2, 3`, device `c` stores its chunk for row `c + e` into row `c + e` of its result
  buffer and sends it to device `c + e`, where it lands in scratch row `4 - e`; the landing hands the receiver the
  scratch row AND row `c + e` of the sender's result buffer, so that the receiver may write there later;
* device `c` adds the three chunks it received to its own chunk for row `c` and stores the sum in row `c` of its
  result buffer;
* second exchange: device `c` sends row `c` of its result buffer to row `c` of every other device's result buffer.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.MemrefSat
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the staging pipeline's rounds beside the exchange's own, whose duties are named by `Fin 4` -/

abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: contents `m`, every counter zero, generator registers `ρ`. -/
def s₀ : MemSt nD τ sig (Elt F) := ⟨m, fun _ => 0, ρ⟩

/-! ## Devices around the ring -/

set_option backward.proofsInPublic true in
/-- The device `d` places after `c`. -/
def hop (c : Dev nD) (d : Fin 4) : Dev nD := ⟨(c.val + d.val) % 4, Nat.mod_lt _ (by decide)⟩
set_option backward.proofsInPublic true in
/-- The number of places that leads back from `d` places on. -/
def back (d : Fin 4) : Fin 4 := ⟨(4 - d.val) % 4, Nat.mod_lt _ (by decide)⟩

theorem hop_back (c : Dev nD) (d : Fin 4) : hop (hop c d) (back d) = c := by revert c d; decide
theorem hop_of_back (c : Dev nD) (d : Fin 4) : hop (hop c (back d)) d = c := by revert c d; decide
theorem back_back (d : Fin 4) : back (back d) = d := by revert d; decide
theorem hop_eq_iff (c t : Dev nD) (d : Fin 4) : Iff (hop c d = t) (c = hop t (back d)) := by revert c t d; decide
theorem hop_inj (c : Dev nD) (d d' : Fin 4) : Iff (hop c d = hop c d') (d = d') := by revert c d d'; decide

/-- Going `d` places on is a permutation of the devices. -/
def hopEquiv (d : Fin 4) : Dev nD ≃ Dev nD := ⟨fun c => hop c d, fun c => hop c (back d), fun c => hop_back c d, fun c => hop_of_back c d⟩

/-- The devices the printed chains name: the three barrier raises, the three sends of the first exchange (two
    places on first), the three of the second. -/
theorem dev1_eq (c : Dev nD) : (⟨k0_dev1 c, k0_dev1_lt c⟩ : Dev nD) = hop c 1 := by revert c; decide
theorem dev2_eq (c : Dev nD) : (⟨k0_dev2 c, k0_dev2_lt c⟩ : Dev nD) = hop c 2 := by revert c; decide
theorem dev3_eq (c : Dev nD) : (⟨k0_dev3 c, k0_dev3_lt c⟩ : Dev nD) = hop c 3 := by revert c; decide
theorem dev4_eq (c : Dev nD) : (⟨k0_dev4 c, k0_dev4_lt c⟩ : Dev nD) = hop c 2 := by revert c; decide
theorem dev5_eq (c : Dev nD) : (⟨k0_dev5 c, k0_dev5_lt c⟩ : Dev nD) = hop c 1 := by revert c; decide
theorem dev6_eq (c : Dev nD) : (⟨k0_dev6 c, k0_dev6_lt c⟩ : Dev nD) = hop c 3 := by revert c; decide
theorem dev7_eq (c : Dev nD) : (⟨k0_dev7 c, k0_dev7_lt c⟩ : Dev nD) = hop c 1 := by revert c; decide
theorem dev8_eq (c : Dev nD) : (⟨k0_dev8 c, k0_dev8_lt c⟩ : Dev nD) = hop c 2 := by revert c; decide
theorem dev9_eq (c : Dev nD) : (⟨k0_dev9 c, k0_dev9_lt c⟩ : Dev nD) = hop c 3 := by revert c; decide

/-- The rows the printed offsets name: row `c + d` of the buffer, and row `c`. -/
theorem off1_1 (c : Dev nD) : k0_off1 c 1#32 = ![(hop c 1).val, 0, 0] := by revert c; decide
theorem off1_2 (c : Dev nD) : k0_off1 c 2#32 = ![(hop c 2).val, 0, 0] := by revert c; decide
theorem off1_3 (c : Dev nD) : k0_off1 c 3#32 = ![(hop c 3).val, 0, 0] := by revert c; decide
theorem off2_1 (c : Dev nD) : k0_off2 c 1#32 = ![(hop c 1).val, 0, 0] := by revert c; decide
theorem off2_2 (c : Dev nD) : k0_off2 c 2#32 = ![(hop c 2).val, 0, 0] := by revert c; decide
theorem off2_3 (c : Dev nD) : k0_off2 c 3#32 = ![(hop c 3).val, 0, 0] := by revert c; decide
theorem off3_c (c : Dev nD) : k0_off3 c = ![c.val, 0, 0] := by revert c; decide
theorem off4_c (c : Dev nD) : k0_off4 c = ![c.val, 0, 0] := by revert c; decide

/-! ## Memrefs: the buffers and their rows -/

abbrev xM : Memref sig .tc .vmem S4x512x256 .f32 := Memref.whole cc0_stg0_0
abbrev kM : Memref sig .tc .vmem S4x256 .f32 := Memref.whole cc0_stg1_0
abbrev wM : Memref sig .tc .vmem S256x256 .f32 := Memref.whole cc0_stg2_0
abbrev oM : Memref sig .tc .vmem S4x512x256 .f32 := Memref.whole cc0_stg3_0
abbrev gM : Memref sig .tc .vmem S4x512x256 .f32 := Memref.whole cc0_scratch0

set_option backward.proofsInPublic true in
theorem row_inb (i : Fin 4) : ∀ a, (![i.val, 0, 0] : Fin 3 → Nat) a + S1x512x256.size a ≤ S4x512x256.size a := by
  revert i; decide
/-- Row `i` of a buffer of four rows. -/
abbrev rowR (i : Fin 4) : Rect S4x512x256 := Rect.unit (s := S4x512x256) ![i.val, 0, 0] S1x512x256.size (row_inb i)
/-- Row `i` of the result buffer and of the scratch buffer. -/
abbrev outRow (i : Fin 4) : Memref sig .tc .vmem S1x512x256 .f32 := oM.slice (rowR i) (fun _ => rfl)
abbrev stgRow (i : Fin 4) : Memref sig .tc .vmem S1x512x256 .f32 := gM.slice (rowR i) (fun _ => rfl)

/-- A row's contents. -/
abbrev RowV (F : FTy → Type) : Type := S1x512x256.Idx → Elt F .f32

/-- Device `c` holds row `i` of its result buffer, at share `q`, reading `X` there; -/
def outHas (c : Dev nD) (i : Fin 4) (q : PosShare TreeShare) (X : RowV F) : sProp 𝕄 := owns (c : Thread nD τ) (outRow i) q X
/-- and row `i` of its scratch buffer. -/
def stgHas (c : Dev nD) (i : Fin 4) (X : RowV F) : sProp 𝕄 := owns (c : Thread nD τ) (stgRow i) fullShare X

omit [FloatOps F] in
instance outHas_storable (c : Dev nD) (i q X) : BI.Storable (upEmb : UEmb _ 𝕄) (outHas (F := F) c i q X) := by unfold outHas; infer_instance
omit [FloatOps F] in
instance stgHas_storable (c : Dev nD) (i X) : BI.Storable (upEmb : UEmb _ 𝕄) (stgHas (F := F) c i X) := by unfold stgHas; infer_instance

/-- A row's transfer credits this much. -/
abbrev N : ℕ := (stgRow 0).view.dmaCredit
theorem N_pos : 0 < N := View.dmaCredit_pos _ (by decide)
theorem credit_stg (i : Fin 4) : (stgRow i).view.dmaCredit = N := rfl
theorem credit_out (i : Fin 4) : (outRow i).view.dmaCredit = N := rfl

theorem rows_disjoint (i j : Fin 4) (h : i ≠ j) : Disjoint (rowR i).set (rowR j).set :=
  Ring.lead_disjoint (s := S4x512x256) (0 : Fin 3) 1 (fun b : Fin 4 => ![b.val, 0, 0]) S1x512x256.size row_inb
    (by decide) rfl i j h
theorem rows_cover : (Finset.univ : Finset (Fin 4)).biUnion (fun i => (rowR i).set) = Finset.univ :=
  Ring.lead_cover (s := S4x512x256) (0 : Fin 3) 1 (fun b : Fin 4 => ![b.val, 0, 0]) S1x512x256.size row_inb
    (by decide) (by decide) rfl (by decide) rfl

/-! ## Semaphores and cells -/

/-- The runtime's barrier semaphore. -/
abbrev barS : Sem sig := (SemArray.scalar (sig.barrier 0 rfl) : Sems sig S_).sem
set_option backward.proofsInPublic true in
/-- DMA semaphore `j` of the kernel's array `a`: arrays 0, 1 the first exchange's send and receive, 2, 3 the second's. -/
def dsem (a j : Fin 4) : DmaSem sig := ⟨4 + 4 * a.val + j.val, by have := a.isLt; have := j.isLt; show _ < 20; omega⟩

abbrev barCell (c : Dev nD) : GSem nD τ sig := ((c : Thread nD τ), .reg barS)
abbrev dmaCell (c : Dev nD) (a j : Fin 4) : GSem nD τ sig := ((c : Thread nD τ), .dma (dsem a j))

theorem sem5_1 : ((cc0_scratch1.slice (Rect.unit (s := S4) ![1] S1.size inb_S4_S1_1)).squeeze S_ squeezes_S1_S_).sem = dsem 0 1 := by decide
theorem sem5_2 : ((cc0_scratch1.slice (Rect.unit (s := S4) ![2] S1.size inb_S4_S1_2)).squeeze S_ squeezes_S1_S_).sem = dsem 0 2 := by decide
theorem sem5_3 : ((cc0_scratch1.slice (Rect.unit (s := S4) ![3] S1.size inb_S4_S1_3)).squeeze S_ squeezes_S1_S_).sem = dsem 0 3 := by decide
theorem sem6_1 : ((cc0_scratch2.slice (Rect.unit (s := S4) ![1] S1.size inb_S4_S1_1)).squeeze S_ squeezes_S1_S_).sem = dsem 1 1 := by decide
theorem sem6_2 : ((cc0_scratch2.slice (Rect.unit (s := S4) ![2] S1.size inb_S4_S1_2)).squeeze S_ squeezes_S1_S_).sem = dsem 1 2 := by decide
theorem sem6_3 : ((cc0_scratch2.slice (Rect.unit (s := S4) ![3] S1.size inb_S4_S1_3)).squeeze S_ squeezes_S1_S_).sem = dsem 1 3 := by decide
theorem sem7_1 : ((cc0_scratch3.slice (Rect.unit (s := S4) ![1] S1.size inb_S4_S1_1)).squeeze S_ squeezes_S1_S_).sem = dsem 2 1 := by decide
theorem sem7_2 : ((cc0_scratch3.slice (Rect.unit (s := S4) ![2] S1.size inb_S4_S1_2)).squeeze S_ squeezes_S1_S_).sem = dsem 2 2 := by decide
theorem sem7_3 : ((cc0_scratch3.slice (Rect.unit (s := S4) ![3] S1.size inb_S4_S1_3)).squeeze S_ squeezes_S1_S_).sem = dsem 2 3 := by decide
theorem sem8_1 : ((cc0_scratch4.slice (Rect.unit (s := S4) ![1] S1.size inb_S4_S1_1)).squeeze S_ squeezes_S1_S_).sem = dsem 3 1 := by decide
theorem sem8_2 : ((cc0_scratch4.slice (Rect.unit (s := S4) ![2] S1.size inb_S4_S1_2)).squeeze S_ squeezes_S1_S_).sem = dsem 3 2 := by decide
theorem sem8_3 : ((cc0_scratch4.slice (Rect.unit (s := S4) ![3] S1.size inb_S4_S1_3)).squeeze S_ squeezes_S1_S_).sem = dsem 3 3 := by decide

/-! ## Contents -/

/-- The block a staging buffer of device `c` holds after its copy-in: the device's quarter of `x`, of the filter taps,
    of the projection. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def wstg (c : Dev nD) : (cc0_stg2_0 : Ref sig .tc).ty.Contents (Elt F) :=
  (win0_2.blk (0 : Fin 1)).view.read (Elt F) ((s₀ m ρ).mem ((c : Thread nD τ).loc main_arg2))

/-- Row `i` of a buffer's contents. -/
def rowOf (X : S4x512x256.Idx → Elt F .f32) (i : Fin 4) : RowV F := fun j => X ((rowR i).emb j)

/-- One row's chunk from a row of `x`, the taps and the projection: the filter over time, the gate, the product. -/
def chunk (k : Vec F S4x256 .f32) (w : Vec F S256x256 .f32) (xr : Vec F S1x512x256 .f32) : RowV F :=
  k0_pay6 (k0_pay1 k) (k0_pay2 w) (k0_pay3 xr) (k0_pay4 k xr) k0_pay5

/-- Device `c`'s chunk for row `t`, and row `t` of the result: device `t`'s own chunk and the three it received. -/
def chunkAt (c t : Dev nD) : RowV F := chunk (kstg m ρ c) (wstg m ρ c) (rowOf (xstg m ρ c) t)
def redAt (t : Dev nD) : RowV F :=
  k0_pay17 (chunkAt m ρ t t) (chunkAt m ρ (hop t 1) t) (chunkAt m ρ (hop t 2) t) (chunkAt m ρ (hop t 3) t)

/-! ## The schedule -/

/-- The share of its own result row that a device lends to its send `e` of the second exchange. -/
def lent (e : Fin 4) : PosShare TreeShare := match e with
  | 1 => (fullShare : PosShare TreeShare).left
  | 2 => (fullShare : PosShare TreeShare).right.left
  | _ => (fullShare : PosShare TreeShare).right.right

/-- Duty `d` of `c`'s barrier, paid by the device `d` places before: the landing row `d` of that device's scratch. -/
def barPay (c : Dev nD) (d : Fin 4) : sProp 𝕄 := iprop(∃ X, stgHas (F := F) (hop c (back d)) d X)
/-- What lands on `t` in the first exchange from `r` places on: the scratch row `r` holding that device's chunk for
    `t`, and row `t` of that device's result buffer, to be written by `t` in the second exchange. -/
def firstPay (t : Dev nD) (r : Fin 4) : sProp 𝕄 :=
  iprop(stgHas t r (chunkAt m ρ (hop t r) t) ∗ ∃ X, outHas (F := F) (hop t r) t fullShare X)
/-- The share a send of the second exchange gives back when it has left the device. -/
def lentPay (c : Dev nD) (e : Fin 4) : sProp 𝕄 := outHas c c (lent e) (redAt m ρ c)
/-- What lands on `t` in the second exchange from `r` places on: that device's row of the result. -/
def lastPay (t : Dev nD) (r : Fin 4) : sProp 𝕄 := outHas t (hop t r) fullShare (redAt m ρ (hop t r))

def dmaPay (c : Dev nD) (a j : Fin 4) : sProp 𝕄 := match a with
  | 0 => iprop(emp)
  | 1 => firstPay m ρ c j
  | 2 => lentPay m ρ c j
  | 3 => lastPay m ρ c j

instance dmaPay_storable (c : Dev nD) (a j : Fin 4) : BI.Storable (upEmb : UEmb _ 𝕄) (dmaPay (F := F) m ρ c a j) := by
  unfold dmaPay firstPay lentPay lastPay
  split <;> infer_instance
omit [FloatOps F] in
instance barPay_storable (c : Dev nD) (d : Fin 4) : BI.Storable (upEmb : UEmb _ 𝕄) (barPay (F := F) c d) := by
  unfold barPay; infer_instance

/-- Which array a DMA semaphore of the kernel belongs to, and its place there. -/
def arrOf (q : DmaSem sig) : Fin 4 := ⟨(q.val / 4 - 1) % 4, Nat.mod_lt _ (by decide)⟩
def posOf (q : DmaSem sig) : Fin 4 := ⟨q.val % 4, Nat.mod_lt _ (by decide)⟩
theorem arrOf_dsem (a j : Fin 4) : arrOf (dsem a j) = a := by revert a j; decide
theorem posOf_dsem (a j : Fin 4) : posOf (dsem a j) = j := by revert a j; decide

def dutiesOf : SemLoc sig → Finset (Fin 4)
  | .reg s => if s = barS then {1, 2, 3} else ∅
  | .dma q => if 4 ≤ q.val ∧ posOf q ≠ 0 then {0} else ∅

/-- One round: a barrier has the duties 1, 2, 3 of one unit each; a used semaphore of the kernel's arrays the duty 0 of
    a row's credit. -/
def exRd : Rounds.Schedule (GSem nD τ sig) (Fin 4) 𝕄 where
  duties g r := if r = 0 ∧ g.1.2 = .tc then dutiesOf g.2 else ∅
  unitless _ := False
  amount g _ _ := match g.2 with | .reg _ => 1 | .dma _ => N
  payload g _ d := match g.2 with
    | .reg _ => barPay g.1.1 d
    | .dma q => dmaPay m ρ g.1.1 (arrOf q) (posOf q)
  amount_pos g _ _ _ := by
    split
    · exact Nat.one_pos
    · exact N_pos

instance exRd_payload_storable (g : GSem nD τ sig) (r : ℕ) (d : Fin 4) :
    BI.Storable (upEmb : UEmb _ 𝕄) ((exRd (F := F) m ρ).payload g r d) := by
  dsimp only [exRd]; split <;> infer_instance

section Sched
variable (c : Dev nD)

theorem duties_bar : (exRd (F := F) m ρ).duties (barCell c) 0 = {1, 2, 3} := by
  dsimp only [exRd]; rw [if_pos ⟨rfl, rfl⟩]; unfold dutiesOf; exact if_pos rfl
theorem duties_dma (a j : Fin 4) (hj : j ≠ 0) : (exRd (F := F) m ρ).duties (dmaCell c a j) 0 = {0} := by
  dsimp only [exRd]; rw [if_pos ⟨rfl, rfl⟩]
  exact if_pos ⟨by dsimp only [dsem]; omega, by rw [posOf_dsem]; exact hj⟩
theorem duties_idle (a : Fin 4) : ∀ r, 0 ≤ r → (exRd (F := F) m ρ).duties (dmaCell c a 0) r = ∅ := fun r _ => by
  dsimp only [exRd]
  by_cases h : r = 0
  · rw [if_pos ⟨h, rfl⟩]; exact if_neg fun h' => h'.2 (posOf_dsem a 0)
  · exact if_neg fun h' => h h'.1
theorem duties_later (g : GSem nD τ sig) : ∀ r, 1 ≤ r → (exRd (F := F) m ρ).duties g r = ∅ :=
  fun r hr => by dsimp only [exRd]; exact if_neg fun h => by omega

theorem amount_bar (d : Fin 4) : (exRd (F := F) m ρ).amount (barCell c) 0 d = 1 := rfl
theorem amount_dma (a j d : Fin 4) : (exRd (F := F) m ρ).amount (dmaCell c a j) 0 d = N := rfl

theorem expect_bar : (exRd (F := F) m ρ).expect (barCell c) 0 = 3 := by
  unfold Schedule.expect Schedule.amountOf
  rw [duties_bar, Finset.sum_congr rfl fun d _ => amount_bar m ρ c d]; rfl
theorem expect_dma (a j : Fin 4) (hj : j ≠ 0) : (exRd (F := F) m ρ).expect (dmaCell c a j) 0 = N := by
  unfold Schedule.expect Schedule.amountOf; rw [duties_dma m ρ c a j hj, Finset.sum_singleton, amount_dma]

theorem payload_bar (d : Fin 4) : (exRd (F := F) m ρ).payload (barCell c) 0 d = barPay c d := rfl
theorem payload_dma (a j d : Fin 4) : (exRd (F := F) m ρ).payload (dmaCell c a j) 0 d = dmaPay m ρ c a j := by
  show dmaPay m ρ c (arrOf (dsem a j)) (posOf (dsem a j)) = _; rw [arrOf_dsem, posOf_dsem]

/-- A whole round of a barrier hands over three landing rows; -/
theorem rest_bar : bigSep ((exRd (F := F) m ρ).duties (barCell c) 0 \ ∅) (fun d => (exRd (F := F) m ρ).payload (barCell c) 0 d)
    = iprop(barPay c 1 ∗ barPay c 2 ∗ barPay c 3) := by
  rw [Finset.sdiff_empty, duties_bar, bigSep_eq_bigSepL_of_eq [1, 2, 3] (by decide) (by decide)]; rfl
/-- a whole round of a transfer's semaphore its one payload. -/
theorem rest_dma (a j : Fin 4) (hj : j ≠ 0) :
    bigSep ((exRd (F := F) m ρ).duties (dmaCell c a j) 0 \ ∅) (fun d => (exRd (F := F) m ρ).payload (dmaCell c a j) 0 d) = dmaPay m ρ c a j := by
  rw [Finset.sdiff_empty, duties_dma m ρ c a j hj, bigSep_singleton, payload_dma]

end Sched

/-! ## What each core owes at launch; the levels -/

abbrev barO (c : Dev nD) (e : Fin 4) : CellTallies nD τ sig Unit := tallyAt (barCell (hop c e)) () 1
abbrev firstO (c : Dev nD) (e : Fin 4) : CellTallies nD τ sig Unit := tallyAt (dmaCell (hop c e) 1 (back e)) () N
abbrev lastO (c : Dev nD) (e : Fin 4) : CellTallies nD τ sig Unit := tallyAt (dmaCell (hop c e) 3 (back e)) () N

/-- What is still owed before the second exchange's sends, the first exchange's, and the barrier raises: each sum ends
    in what is paid first. -/
def Olast (c : Dev nD) : CellTallies nD τ sig Unit := lastO c 3 + lastO c 2 + lastO c 1
def Ofirst (c : Dev nD) : CellTallies nD τ sig Unit := Olast c + firstO c 3 + firstO c 1 + firstO c 2
def O₀ (c : Dev nD) : CellTallies nD τ sig Unit := Ofirst c + barO c 3 + barO c 2 + barO c 1

def L (g : GSem nD τ sig) : Finset Unit := if g.1.2 = .tc then {()} else ∅
/-- Barriers at 1, the first exchange's receives at 2, the second's at 3, everything else at 0. -/
def lv (g : GSem nD τ sig) (_ : Unit) : ℕ := match g.2 with
  | .reg _ => 1
  | .dma q => if q.val / 4 = 2 then 2 else if q.val / 4 = 4 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies on cells of the cores, above level `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {g : GSem nD τ sig} {k : ℕ} (hg : g.1.2 = .tc) (hn : n < lv g ()) : Above n (tallyAt g () k) := fun g' u h => by
  rw [tallyAt_apply] at h
  by_cases he : g' = g ∧ u = ()
  · obtain ⟨rfl, -⟩ := he; exact ⟨hg, hn⟩
  · rw [if_neg he] at h; exact absurd h (Nat.lt_irrefl 0)

theorem lv_dma (c : Dev nD) (a j : Fin 4) : lv (dmaCell c a j) () = if a = 1 then 2 else if a = 3 then 3 else 0 := by
  show (if (dsem a j).val / 4 = 2 then 2 else if (dsem a j).val / 4 = 4 then 3 else 0) = _
  revert a j; decide

theorem above_Olast {n : ℕ} (h : n < 3) (c : Dev nD) : Above n (Olast c) :=
  have hh (e : Fin 4) : Above n (lastO c e) := above_tally rfl (by rw [lv_dma]; exact h)
  above_add (above_add (hh 3) (hh 2)) (hh 1)
theorem above_Ofirst {n : ℕ} (h : n < 2) (c : Dev nD) : Above n (Ofirst c) :=
  have hh (e : Fin 4) : Above n (firstO c e) := above_tally rfl (by rw [lv_dma]; exact h)
  above_add (above_add (above_add (above_Olast (by omega) c) (hh 3)) (hh 1)) (hh 2)
theorem above_O₀ {n : ℕ} (h : n < 1) (c : Dev nD) : Above n (O₀ c) :=
  have hh (e : Fin 4) : Above n (barO c e) := above_tally rfl h
  above_add (above_add (above_add (above_Ofirst (by omega) c) (hh 3)) (hh 2)) (hh 1)

/-- A core may wait on a cell below everything it owes. -/
theorem mayWait_of (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Exchange

end
-- ==== Proof.KernelIdealOps.lean ====
/-
# One rule per kind of step of the exchange

Each rule takes what a step of the kernel needs from the device's resources and says what it gets back.
-/
module

public import proofs.«01_k».proof.Proof.KernelIdealCells

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The kernel's semaphores on a device: the barrier, and the sixteen of its four arrays. -/
abbrev CI : Type := Option (Fin 4 × Fin 4)
abbrev csem : CI → SemLoc sig := fun | none => .reg barS | some (a, j) => .dma (dsem a j)
abbrev kcell (ck : Dev nD × CI) : GSem nD τ sig := ((ck.1 : Thread nD τ), csem ck.2)

/-- What all devices know throughout: every cell's invariant, under the names `K`, and that every cell is at round 0
    or past it. -/
def records (K : Dev nD × CI → ℕ) : sProp 𝕄 :=
  iprop((bigSep Finset.univ fun ck : Dev nD × CI => cellInv ER (exRd m ρ) (K ck) (kcell ck))
    ∗ bigSep Finset.univ fun ck : Dev nD × CI => reached ER (kcell ck) 0)

instance records_persistent (K : Dev nD × CI → ℕ) : BI.Persistent (records m ρ K) := by unfold records; infer_instance

/-- What device `c` still owes, whatever waits it has made. -/
def ow (c : Dev nD) (O : CellTallies nD τ sig Unit) : sProp 𝕄 := iprop(∃ W, owes (c : Thread nD τ) O W)

section Steps

variable (K : Dev nD × CI → ℕ)

theorem inv_at (ck : Dev nD × CI) : records m ρ K ⊢ cellInv ER (exRd m ρ) (K ck) (kcell ck) := by
  unfold records
  iintro ⟨H, -⟩
  iapply (show (bigSep Finset.univ fun ck : Dev nD × CI => (cellInv ER (exRd m ρ) (K ck) (kcell ck) : sProp 𝕄)) ⊢ cellInv ER (exRd m ρ) (K ck) (kcell ck)
    from bigSep_elim (Finset.mem_univ ck))
  iexact H
theorem reached_at (ck : Dev nD × CI) : records m ρ K ⊢ reached ER (kcell ck) 0 := by
  unfold records
  iintro ⟨-, H⟩
  iapply (show (bigSep Finset.univ fun ck : Dev nD × CI => (reached ER (kcell ck) 0 : sProp 𝕄)) ⊢ reached ER (kcell ck) 0
    from bigSep_elim (Finset.mem_univ ck))
  iexact H

/-- The rest of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Raising the barrier of the device `e` places on, with the own landing row `e`. -/
theorem step_raise {α : Type} {Q : α → sProp 𝕄} {k : PUnit → Prog (TpuEff nD τ sig (Elt F) Λ₀ .tc) α} (c n : Dev nD) (e : Fin 4) (he : e ≠ 0) (hn : n = hop c e) (k' : ℕ) (hk : 1 = k') (O : CellTallies nD τ sig Unit) :
    iprop(records m ρ K ∗ ow c (O + barO c e) ∗ dutyTok ER (barCell (hop c e)) 0 e ∗ ∃ X, stgHas (F := F) c e X)
      ⊢ iprop((ow c O -∗ wpc c (k ⟨⟩) Q) -∗ wpc c (.op (.semSignal (n : Thread nD τ) barS k') k) Q) := by
  subst hn hk
  iintro ⟨#HR, Ho, Ht, Hs⟩ Hk
  unfold ow
  icases Ho with ⟨%W, Ho⟩
  iapply (Rounds.wp_signal 𝒱₀ ER (exRd m ρ) (c : Thread nD τ) none (dst := (hop c e : Thread nD τ)) (κ := K (hop c e, none))
      (d := e) (by rw [duties_bar]; revert e; decide) (amount_bar m ρ (hop c e) e) () O rfl) $$ [Ho Ht Hs]
  · isplitr; · iapply (inv_at m ρ K (hop c e, none)); iexact HR
    isplitl [Ho]; · iexact Ho
    isplitl [Ht]; · iexact Ht
    isplitl [Hs]; · rw [payload_bar]; unfold barPay; rw [hop_back]; iexact Hs
    iapply (reached_at m ρ K (hop c e, none)); iexact HR
  iintro Ho
  iapply Hk
  iexists W; iexact Ho

/-- Waiting for the three raises of the own barrier: three landing rows of the others. -/
theorem step_gather {α : Type} {Q : α → sProp 𝕄} {k : PUnit → Prog (TpuEff nD τ sig (Elt F) Λ₀ .tc) α} (c : Dev nD) (k' : ℕ) (hk : k' = 3) (O : CellTallies nD τ sig Unit) (hO : Above 1 O) :
    iprop(records m ρ K ∗ levAts L lv ∗ ow c O ∗ cred (tallyAt (barCell c) () 3) ∗ atPos ER (barCell c) 0 ∅ 0)
      ⊢ iprop(((ow c O ∗ atPos ER (barCell c) 1 ∅ 0 ∗ barPay (F := F) c 1 ∗ barPay (F := F) c 2 ∗ barPay (F := F) c 3) -∗ wpc c (k ⟨⟩) Q)
          -∗ wpc c (.op (.semWait barS k') k) Q) := by
  subst hk
  iintro ⟨#HR, #Hlev, Ho, Hc, Hp⟩ Hk
  unfold ow
  icases Ho with ⟨%W, Ho⟩
  iapply (Rounds.wp_wait_rest_token 𝒱₀ ER (exRd m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc Ho Hp]
  · isplitr; · iapply (inv_at m ρ K (c, none)); iexact HR
    isplitl [Hc]; · iexact Hc
    isplitl [Ho]; · iexact Ho
    isplitr; · iapply (mayWait_of c (.reg barS) hO); iexact Hlev
    iexact Hp
  iintro ⟨Ho, Hp, -, Hpay⟩
  ihave Hq := (Entails.of_eq (rest_bar m ρ c)) $$ Hpay
  iapply Hk
  isplitl [Ho]; · iexists _; iexact Ho
  isplitl [Hp]; · iexact Hp
  iexact Hq

/-- Row `i` at offset `off`, however the offset is spelled. -/
abbrev rectAt (off : Fin 3 → ℕ) (inb : ∀ a, off a + S1x512x256.size a ≤ S4x512x256.size a) : Rect S4x512x256 :=
  Rect.unit (s := S4x512x256) off S1x512x256.size inb

/-- Waiting for a transfer of the kernel's array `a`, place `j`: what that transfer hands over. -/
theorem step_take {α : Type} {Q : α → sProp 𝕄} {k : PUnit → Prog (TpuEff nD τ sig (Elt F) Λ₀ .tc) α} (c : Dev nD) (a j : Fin 4) (hj : j ≠ 0) (s : DmaSem sig) (hs : s = dsem a j) {src : Memref sig .tc .vmem S1x512x256 .f32}
    {M : Memref sig .tc .vmem S4x512x256 .f32} {off : Fin 3 → ℕ} {inb} {hu} {h₁ : src.view.WordExact} {h₂ : (M.slice (rectAt off inb) hu).view.WordExact}
    (O : CellTallies nD τ sig Unit) (hO : Above (lv (dmaCell c a j) ()) O) :
    iprop(records m ρ K ∗ levAts L lv ∗ ow c O ∗ cred (tallyAt (dmaCell c a j) () N) ∗ atPos ER (dmaCell c a j) 0 ∅ 0)
      ⊢ iprop(((ow c O ∗ atPos ER (dmaCell c a j) 1 ∅ 0 ∗ dmaPay m ρ c a j) -∗ wpc c (k ⟨⟩) Q)
          -∗ wpc c (.op (.waitDma2 s src (M.slice (rectAt off inb) hu) h₁ h₂) k) Q) := by
  subst hs
  iintro ⟨#HR, #Hlev, Ho, Hc, Hp⟩ Hk
  unfold ow
  icases Ho with ⟨%W, Ho⟩
  have hN : (M.slice (rectAt off inb) hu).view.dmaCredit = N := rfl
  rw [← hN]
  iapply (Rounds.wp_wait_rest_token 𝒱₀ ER (exRd m ρ) (c : Thread nD τ) none (κ := K (c, some (a, j)))
      (wpE_waitDma2_eq 𝒱₀ (c : Thread nD τ) none Set.univ) (Set.mem_univ _) () (O := O) (W := W) (R := 0) (m := 0) (T := ∅)
      (by rw [expect_dma m ρ c a j hj, hN, Nat.zero_add])) $$ [Hc Ho Hp]
  · isplitr; · iapply (inv_at m ρ K (c, some (a, j))); iexact HR
    isplitl [Hc]; · iexact Hc
    isplitl [Ho]; · iexact Ho
    isplitr; · iapply (mayWait_of c (.dma (dsem a j)) hO); iexact Hlev
    iexact Hp
  iintro ⟨Ho, Hp, -, Hpay⟩
  ihave Hq := (Entails.of_eq (rest_dma m ρ c a j hj)) $$ Hpay
  iapply Hk
  isplitl [Ho]; · iexists _; iexact Ho
  isplitl [Hp]; · iexact Hp
  iexact Hq

omit [FloatOps F] in
/-- Rewriting row `i` of the scratch buffer reads back what was written; -/
theorem stg_written (c : Dev nD) (i : Fin 4) (f : Buf (Elt F) ((stgRow i).view.loc (c : Thread nD τ))) (X : RowV F) :
    ((stgRow i).view.loc (c : Thread nD τ) ↦[(stgRow i).view.set]{fullShare} (stgRow i).view.write (Elt F) f X Finset.univ : sProp 𝕄)
      ⊢ stgHas c i X := by
  unfold stgHas
  refine (owns_intro (c : Thread nD τ) (stgRow i) fullShare _).trans (Entails.of_eq ?_)
  rw [View.read_write_univ]
omit [FloatOps F] in
/-- likewise the result buffer. -/
theorem out_written (c : Dev nD) (i : Fin 4) (f : Buf (Elt F) ((outRow i).view.loc (c : Thread nD τ))) (X : RowV F) :
    ((outRow i).view.loc (c : Thread nD τ) ↦[(outRow i).view.set]{fullShare} (outRow i).view.write (Elt F) f X Finset.univ : sProp 𝕄)
      ⊢ outHas c i fullShare X := by
  unfold outHas
  refine (owns_intro (c : Thread nD τ) (outRow i) fullShare _).trans (Entails.of_eq ?_)
  rw [View.read_write_univ]

theorem back_ne (e : Fin 4) (he : e ≠ 0) : back e ≠ 0 := by revert e; decide

/-- Sending the own chunk for the device `e` places on out of the own result row of that device: the landing hands
    both rows to the receiver. -/
theorem step_first {α : Type} {Q : α → sProp 𝕄} {k : PUnit → Prog (TpuEff nD τ sig (Elt F) Λ₀ .tc) α} (c n : Dev nD) (e r : Fin 4) (he : e ≠ 0) (hr : r = back e) (hn : n = hop c e)
    (sS sR : DmaSem sig) (hsS : sS = dsem 0 e) (hsR : sR = dsem 1 r)
    (off : Fin 3 → ℕ) (inb) (hoff : off = ![(hop c e).val, 0, 0]) (off' : Fin 3 → ℕ) (inb') (hoff' : off' = ![r.val, 0, 0])
    {hsc : (gM.slice (rectAt off' inb') (fun _ => rfl) : Memref sig (Dev.tc n : Thread nD τ).2.kind .vmem S1x512x256 .f32).view.ref.isScScratch = false}
    {hsrc : (oM.slice (rectAt off inb) (fun _ => rfl) : Memref sig .tc .vmem S1x512x256 .f32).view.WordExact}
    {hdst : (gM.slice (rectAt off' inb') (fun _ => rfl) : Memref sig (Dev.tc n : Thread nD τ).2.kind .vmem S1x512x256 .f32).view.WordExact}
    {hsem : DmaTarget.Typed .vmem (.dma sR) (.remote (Dev.tc n : Thread nD τ) (gM.slice (rectAt off' inb') (fun _ => rfl) : Memref sig (Dev.tc n : Thread nD τ).2.kind .vmem S1x512x256 .f32) (.dma sS) hsc)}
    (O : CellTallies nD τ sig Unit) :
    iprop(records m ρ K ∗ ow c (O + firstO c e) ∗ outHas c (hop c e) fullShare (chunkAt m ρ c (hop c e)) ∗ (∃ X, stgHas (F := F) (hop c e) r X)
        ∗ dutyTok ER (dmaCell c 0 e) 0 0 ∗ dutyTok ER (dmaCell (hop c e) 1 r) 0 0)
      ⊢ iprop(((ow c O ∗ cred (tallyAt (dmaCell c 0 e) () N)) -∗ wpc c (k ⟨⟩) Q)
          -∗ wpc c (.op (.enqueueDma (oM.slice (rectAt off inb) (fun _ => rfl))
              (.remote (Dev.tc n : Thread nD τ) (gM.slice (rectAt off' inb') (fun _ => rfl)) (.dma sS) hsc) (.dma sR) hsrc hdst hsem) k) Q) := by
  subst hn hsS hsR hoff hoff' hr
  iintro ⟨#HR, Ho, Hsrc, ⟨%X, Hdst⟩, Ht, Ht'⟩ Hk
  unfold ow outHas stgHas owns
  icases Ho with ⟨%W, Ho⟩
  icases Hsrc with ⟨%fs, %hfs, Hsrc⟩
  icases Hdst with ⟨%fd, %hfd, Hdst⟩
  iapply (Rounds.wp_send_landing_pointsTo 𝒱₀ ER (exRd m ρ) (c : Thread nD τ) none (c' := (hop c e : Thread nD τ))
    (src := outRow (hop c e)) (dst := stgRow (back e)) (κ₁ := K (c, some (0, e))) (κ₂ := K (hop c e, some (1, back e)))
    (r₁ := 0) (r₂ := 0) (d₁ := 0) (d₂ := 0) (fs := fs) (fd := fd) (q := fullShare)
    (by rw [duties_dma m ρ c 0 e he]; exact Finset.mem_singleton_self _)
    (by rw [duties_dma m ρ (hop c e) 1 (back e) (back_ne e he)]; exact Finset.mem_singleton_self _)
    () () N rfl (amount_dma m ρ c 0 e 0) (amount_dma m ρ (hop c e) 1 (back e) 0) O rfl (W := W)
    (by rw [payload_dma]; exact BI.Entails.refl _)
    (by
      rw [payload_dma]
      show _ ⊢ firstPay m ρ (hop c e) (back e)
      unfold firstPay
      rw [hop_back, hfs]
      iintro ⟨Hd, H⟩
      isplitl [Hd]; · iapply (stg_written (hop c e) (back e) fd _); iexact Hd
      iexists chunkAt m ρ c (hop c e)
      unfold outHas
      rw [← hfs]
      iapply (owns_intro (c : Thread nD τ) (outRow (hop c e)) fullShare fs)
      iexact H)) $$ [Hsrc Hdst Ho Ht Ht']
  · isplitr; · iapply (inv_at m ρ K (c, some (0, e))); iexact HR
    isplitr; · iapply (inv_at m ρ K (hop c e, some (1, back e))); iexact HR
    isplitl [Hsrc]; · iexact Hsrc
    isplitl [Hdst]; · iexact Hdst
    isplitl [Ho]; · iexact Ho
    isplitl [Ht]; · iexact Ht
    isplitr; · iapply (reached_at m ρ K (c, some (0, e))); iexact HR
    isplitl [Ht']; · iexact Ht'
    iapply (reached_at m ρ K (hop c e, some (1, back e))); iexact HR
  iintro ⟨Hc, Ho⟩
  iapply Hk
  isplitl [Ho]; · iexists W; iexact Ho
  iexact Hc

/-- Sending the own row of the result to the device `e` places on. -/
theorem step_last {α : Type} {Q : α → sProp 𝕄} {k : PUnit → Prog (TpuEff nD τ sig (Elt F) Λ₀ .tc) α} (c n : Dev nD) (e r : Fin 4) (he : e ≠ 0) (hr : r = back e) (hn : n = hop c e)
    (sS sR : DmaSem sig) (hsS : sS = dsem 2 e) (hsR : sR = dsem 3 r)
    (off : Fin 3 → ℕ) (inb inb') (hoff : off = ![c.val, 0, 0])
    {hsc : (oM.slice (rectAt off inb') (fun _ => rfl) : Memref sig (Dev.tc n : Thread nD τ).2.kind .vmem S1x512x256 .f32).view.ref.isScScratch = false}
    {hsrc : (oM.slice (rectAt off inb) (fun _ => rfl) : Memref sig .tc .vmem S1x512x256 .f32).view.WordExact}
    {hdst : (oM.slice (rectAt off inb') (fun _ => rfl) : Memref sig (Dev.tc n : Thread nD τ).2.kind .vmem S1x512x256 .f32).view.WordExact}
    {hsem : DmaTarget.Typed .vmem (.dma sR) (.remote (Dev.tc n : Thread nD τ) (oM.slice (rectAt off inb') (fun _ => rfl) : Memref sig (Dev.tc n : Thread nD τ).2.kind .vmem S1x512x256 .f32) (.dma sS) hsc)}
    (O₁ O : CellTallies nD τ sig Unit) (hO : O₁ = O + lastO c e) :
    iprop(records m ρ K ∗ ow c O₁ ∗ outHas c c (lent e) (redAt m ρ c) ∗ (∃ X, outHas (F := F) (hop c e) c fullShare X)
        ∗ dutyTok ER (dmaCell c 2 e) 0 0 ∗ dutyTok ER (dmaCell (hop c e) 3 r) 0 0)
      ⊢ iprop(((ow c O ∗ cred (tallyAt (dmaCell c 2 e) () N)) -∗ wpc c (k ⟨⟩) Q)
          -∗ wpc c (.op (.enqueueDma (oM.slice (rectAt off inb) (fun _ => rfl))
              (.remote (Dev.tc n : Thread nD τ) (oM.slice (rectAt off inb') (fun _ => rfl)) (.dma sS) hsc) (.dma sR) hsrc hdst hsem) k) Q) := by
  subst hn hsS hsR hoff hr hO
  iintro ⟨#HR, Ho, Hsrc, ⟨%X, Hdst⟩, Ht, Ht'⟩ Hk
  unfold ow outHas owns
  icases Ho with ⟨%W, Ho⟩
  icases Hsrc with ⟨%fs, %hfs, Hsrc⟩
  icases Hdst with ⟨%fd, %hfd, Hdst⟩
  iapply (Rounds.wp_send_pointsTo 𝒱₀ ER (exRd m ρ) (c : Thread nD τ) none (c' := (hop c e : Thread nD τ))
    (src := outRow c) (dst := outRow c) (κ₁ := K (c, some (2, e))) (κ₂ := K (hop c e, some (3, back e)))
    (r₁ := 0) (r₂ := 0) (d₁ := 0) (d₂ := 0) (fs := fs) (fd := fd) (q := lent e)
    (by rw [duties_dma m ρ c 2 e he]; exact Finset.mem_singleton_self _)
    (by rw [duties_dma m ρ (hop c e) 3 (back e) (back_ne e he)]; exact Finset.mem_singleton_self _)
    () () N rfl (amount_dma m ρ c 2 e 0) (amount_dma m ρ (hop c e) 3 (back e) 0) O rfl (W := W)
    (by
      rw [payload_dma]
      show _ ⊢ lentPay m ρ c e
      unfold lentPay outHas
      rw [← hfs]
      exact owns_intro (c : Thread nD τ) (outRow c) (lent e) fs)
    (by
      rw [payload_dma]
      show _ ⊢ lastPay m ρ (hop c e) (back e)
      unfold lastPay
      rw [hop_back, hfs]
      exact out_written (hop c e) c fd _)) $$ [Hsrc Hdst Ho Ht Ht']
  · isplitr; · iapply (inv_at m ρ K (c, some (2, e))); iexact HR
    isplitr; · iapply (inv_at m ρ K (hop c e, some (3, back e))); iexact HR
    isplitl [Hsrc]; · iexact Hsrc
    isplitl [Hdst]; · iexact Hdst
    isplitl [Ho]; · iexact Ho
    isplitl [Ht]; · iexact Ht
    isplitr; · iapply (reached_at m ρ K (c, some (2, e))); iexact HR
    isplitl [Ht']; · iexact Ht'
    iapply (reached_at m ρ K (hop c e, some (3, back e))); iexact HR
  iintro ⟨Hc, Ho⟩
  iapply Hk
  isplitl [Ho]; · iexists W; iexact Ho
  iexact Hc

/-! ### Loads and stores -/

/-- Loading row `i` of `x`; -/
theorem step_x {α : Type} {Q : α → sProp 𝕄} {kv : (S1x512x256.Idx → Elt F .f32) → Prog (TpuEff nD τ sig (Elt F) Λ₀ .tc) α} (c i : Dev nD) (off : Fin 3 → ℕ) (inb) (hoff : off = ![i.val, 0, 0]) {hl : xM.view.LoadsAt (rectAt off inb).toLoadRect}
    (X : S4x512x256.Idx → Elt F .f32) :
    owns (Ix := Unit) (Name := ℕ) (U := UU) (Lvl := ℕ) (c : Thread nD τ) xM fullShare X
      ⊢ iprop((owns (Ix := Unit) (Name := ℕ) (U := UU) (Lvl := ℕ) (c : Thread nD τ) xM fullShare X -∗ wpc c (kv (rowOf X i)) Q)
          -∗ wpc c (.op (.load xM (rectAt off inb).toLoadRect hl) kv) Q) := by
  subst hoff
  unfold owns
  iintro ⟨%f, %hf, H⟩ Hk
  subst hf
  iapply (wp_load 𝒱₀ (c : Thread nD τ) none Set.univ (m := xM) (by rw [View.set_whole]; exact Finset.subset_univ _)) $$ H
  iintro H
  iapply Hk
  iexists f
  isplitr; · ipureintro; rfl
  iexact H

/-- loading row `i` of the result buffer (what is read is not used); -/
theorem step_peek {α : Type} {Q : α → sProp 𝕄} {kv : (S1x512x256.Idx → Elt F .f32) → Prog (TpuEff nD τ sig (Elt F) Λ₀ .tc) α} (c i : Dev nD) (off : Fin 3 → ℕ) (inb) (hoff : off = ![i.val, 0, 0]) {hl : oM.view.LoadsAt (rectAt off inb).toLoadRect}
    (X : RowV F) :
    outHas c i fullShare X
      ⊢ iprop((outHas c i fullShare X -∗ wpc c (kv X) Q) -∗ wpc c (.op (.load oM (rectAt off inb).toLoadRect hl) kv) Q) := by
  subst hoff
  unfold outHas owns
  iintro ⟨%f, %hf, H⟩ Hk
  subst hf
  iapply (wp_load_rect 𝒱₀ (c : Thread nD τ) none Set.univ (m := oM) (r := rowR i) (Finset.Subset.refl _)) $$ H
  iintro H
  iapply Hk
  iexists f
  isplitr; · ipureintro; rfl
  iexact H

/-- loading row `i` of the scratch buffer; -/
theorem step_read {α : Type} {Q : α → sProp 𝕄} {kv : (S1x512x256.Idx → Elt F .f32) → Prog (TpuEff nD τ sig (Elt F) Λ₀ .tc) α} (c : Dev nD) (i : Fin 4) (off : Fin 3 → ℕ) (inb) (hoff : off = ![i.val, 0, 0]) {hl : gM.view.LoadsAt (rectAt off inb).toLoadRect}
    (X : RowV F) :
    stgHas c i X
      ⊢ iprop((stgHas c i X -∗ wpc c (kv X) Q) -∗ wpc c (.op (.load gM (rectAt off inb).toLoadRect hl) kv) Q) := by
  subst hoff
  unfold stgHas owns
  iintro ⟨%f, %hf, H⟩ Hk
  subst hf
  iapply (wp_load_rect 𝒱₀ (c : Thread nD τ) none Set.univ (m := gM) (r := rowR i) (Finset.Subset.refl _)) $$ H
  iintro H
  iapply Hk
  iexists f
  isplitr; · ipureintro; rfl
  iexact H

/-- storing row `i` of the result buffer. -/
theorem step_write {α : Type} {Q : α → sProp 𝕄} {k : PUnit → Prog (TpuEff nD τ sig (Elt F) Λ₀ .tc) α} (c i : Dev nD) (off : Fin 3 → ℕ) (inb) (hoff : off = ![i.val, 0, 0]) (w : RowV F)
    {hx : (oM.access (rectAt off inb)).Stores Finset.univ} {hm : (Finset.univ : Finset (rectAt off inb).shape.Idx) = Finset.univ ∨ ∀ a, (rectAt off inb).stride a = 1}
    (X : RowV F) :
    outHas c i fullShare X
      ⊢ iprop((outHas c i fullShare w -∗ wpc c (k ⟨⟩) Q) -∗ wpc c (.op (.store oM (rectAt off inb) w Finset.univ hx hm) k) Q) := by
  subst hoff
  iintro H Hk
  ihave H' := (show outHas c i fullShare X ⊢ iprop(∃ f, ⌜(outRow i).view.read (Elt F) f = X⌝ ∗ ((outRow i).view.loc (c : Thread nD τ) ↦[(outRow i).view.set]{fullShare} f)) from .rfl) $$ H
  icases H' with ⟨%f, %hf, H⟩
  iapply (wp_store 𝒱₀ (c : Thread nD τ) none Set.univ (m := oM) (r := rowR i) (Mk := Finset.univ) (S := (outRow i).view.set) (Finset.Subset.refl _)) $$ H
  iintro H
  iapply Hk
  iapply (out_written c i f w)
  iexact H

end Steps

end Cert.KernelIdeal.Exchange

end
-- ==== Proof.KernelIdealParts.lean ====
/-
# The parts of the kernel's body

What each part of the printed body does with the device's resources.
-/
module

public import proofs.«01_k».proof.Proof.KernelIdealOps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four spellings of a chunk -/

section Spell
variable (kk : Vec F S4x256 .f32) (w : Vec F S256x256 .f32) (xr : Vec F S1x512x256 .f32)

/-- The printed program cuts the chunk's computation at four different places; the values are one function. -/
theorem chunk_cut1 : k0_pay8 (k0_pay7 (k0_pay1 kk) (k0_pay2 w) xr) = chunk kk w xr := rfl
theorem chunk_cut2 : k0_pay13 (k0_pay1 kk) (k0_pay2 w) (k0_pay9 xr) (k0_pay10 (k0_pay1 kk) xr) (k0_pay11 xr) (k0_pay12 (k0_pay1 kk)) = chunk kk w xr := rfl
theorem chunk_cut3 : k0_pay16 (k0_pay1 kk) (k0_pay2 w) (k0_pay14 xr) (k0_pay15 (k0_pay1 kk)) = chunk kk w xr := rfl
end Spell

/-! ## Whole loads -/

section Parts
variable (K : Dev nD × CI → ℕ)

omit [FloatOps F] in
theorem hz2 : (![0, 0] : Fin 2 → Nat) = fun _ => 0 := funext fun a => by fin_cases a <;> rfl

omit [FloatOps F] in
theorem read_taps (f : S4x256.Idx → Elt F .f32) :
    kM.view.readAt (Elt F) (Rect.unit (s := S4x256) ![0, 0] S4x256.size inb_S4x256_S4x256_0_0).toLoadRect f = f :=
  Memref.readAt_unit_zero (Elt F) cc0_stg1_0 hz2 _ f
omit [FloatOps F] in
theorem read_proj (f : S256x256.Idx → Elt F .f32) :
    wM.view.readAt (Elt F) (Rect.unit (s := S256x256) ![0, 0] S256x256.size inb_S256x256_S256x256_0_0).toLoadRect f = f :=
  Memref.readAt_unit_zero (Elt F) cc0_stg2_0 hz2 _ f

/-- Loading the taps whole, -/
theorem step_taps {α : Type} {Q : α → sProp 𝕄} {kv : (S4x256.Idx → Elt F .f32) → Prog (TpuEff nD τ sig (Elt F) Λ₀ .tc) α} (c : Dev nD)
    {hl : kM.view.LoadsAt (Rect.unit (s := S4x256) ![0, 0] S4x256.size inb_S4x256_S4x256_0_0).toLoadRect} (X : S4x256.Idx → Elt F .f32) :
    owns (Ix := Unit) (Name := ℕ) (U := UU) (Lvl := ℕ) (c : Thread nD τ) kM fullShare X
      ⊢ iprop((owns (Ix := Unit) (Name := ℕ) (U := UU) (Lvl := ℕ) (c : Thread nD τ) kM fullShare X -∗ wpc c (kv X) Q)
          -∗ wpc c (.op (.load kM (Rect.unit (s := S4x256) ![0, 0] S4x256.size inb_S4x256_S4x256_0_0).toLoadRect hl) kv) Q) := by
  rw [owns_whole]
  iintro H Hk
  iapply (wp_load 𝒱₀ (c : Thread nD τ) none Set.univ (m := kM) (Finset.subset_univ _)) $$ H
  iintro H
  rw [read_taps]
  iapply Hk
  iexact H

/-- and the projection. -/
theorem step_proj {α : Type} {Q : α → sProp 𝕄} {kv : (S256x256.Idx → Elt F .f32) → Prog (TpuEff nD τ sig (Elt F) Λ₀ .tc) α} (c : Dev nD)
    {hl : wM.view.LoadsAt (Rect.unit (s := S256x256) ![0, 0] S256x256.size inb_S256x256_S256x256_0_0).toLoadRect} (X : S256x256.Idx → Elt F .f32) :
    owns (Ix := Unit) (Name := ℕ) (U := UU) (Lvl := ℕ) (c : Thread nD τ) wM fullShare X
      ⊢ iprop((owns (Ix := Unit) (Name := ℕ) (U := UU) (Lvl := ℕ) (c : Thread nD τ) wM fullShare X -∗ wpc c (kv X) Q)
          -∗ wpc c (.op (.load wM (Rect.unit (s := S256x256) ![0, 0] S256x256.size inb_S256x256_S256x256_0_0).toLoadRect hl) kv) Q) := by
  rw [owns_whole]
  iintro H Hk
  iapply (wp_load 𝒱₀ (c : Thread nD τ) none Set.univ (m := wM) (Finset.subset_univ _)) $$ H
  iintro H
  rw [read_proj]
  iapply Hk
  iexact H

/-! ## The parts of the body -/

/-- Device `c` holds its staged `x`, taps and projection. -/
def hasX (c : Dev nD) : sProp 𝕄 := owns (c : Thread nD τ) xM fullShare (xstg m ρ c)
def hasK (c : Dev nD) : sProp 𝕄 := owns (c : Thread nD τ) kM fullShare (kstg m ρ c)
def hasW (c : Dev nD) : sProp 𝕄 := owns (c : Thread nD τ) wM fullShare (wstg m ρ c)
/-- A row of the result buffer, of a scratch buffer, at whatever it holds. -/
def outAny (c : Dev nD) (i : Fin 4) : sProp 𝕄 := iprop(∃ X, outHas (F := F) c i fullShare X)
def stgAny (c : Dev nD) (i : Fin 4) : sProp 𝕄 := iprop(∃ X, stgHas (F := F) c i X)

/-- The first two raises. -/
theorem part1_run (c : Dev nD) (Kt) :
    iprop(records m ρ K ∗ ow c (O₀ c) ∗ dutyTok ER (barCell (hop c 1)) 0 1 ∗ dutyTok ER (barCell (hop c 2)) 0 2
        ∗ stgAny (F := F) c 1 ∗ stgAny (F := F) c 2
        ∗ (∀ (v2 v30 c4 : BitVec 32) (v31 : BitVec 1), ow c (Ofirst c + barO c 3)
            -∗ Kt ⟨c, v2, SemArray.scalar (sig.barrier 0 rfl), v30, c4, v31⟩))
      ⊢ wpc c (k0_part1 (F := F) xM (Memref.isWhole_whole _) kM (Memref.isWhole_whole _) wM (Memref.isWhole_whole _) oM (Memref.isWhole_whole _)
          gM (Memref.isWhole_whole _) cc0_scratch1 cc0_scratch2 cc0_scratch3 cc0_scratch4) Kt := by
  rw [k0_part1_eq_skeleton]; unfold k0_part1_skel wpc
  simp only [semSignalWord, semWaitWord, Prog.lift, Prog.bind_op, Prog.bind_ret, Prog.pure_eq_ret, wp_deviceId]
  unfold stgAny
  iintro ⟨#HR, Ho, Ht1, Ht2, Hs1, Hs2, Hk⟩
  iapply (step_raise m ρ K c _ 1 (by decide) (dev1_eq c) _ (by decide) (Ofirst c + barO c 3 + barO c 2)) $$ [Ho Ht1 Hs1]
  · isplitr; · iexact HR
    isplitl [Ho]; · unfold O₀; iexact Ho
    isplitl [Ht1] <;> iassumption
  iintro Ho
  iapply (step_raise m ρ K c _ 2 (by decide) (dev2_eq c) _ (by decide) (Ofirst c + barO c 3)) $$ [Ho Ht2 Hs2]
  · isplitr; · iexact HR
    isplitl [Ho]; · iexact Ho
    isplitl [Ht2] <;> iassumption
  iintro Ho
  unfold wpc
  rw [wp_ret]; imodintro
  iapply Hk
  iexact Ho

/-- The third raise, the wait for the others, the loads of the taps and the projection and of row `c + 2` of `x`. -/
theorem part2_run (c : Dev nD) (v2 v30 c4 : BitVec 32) (v31 : BitVec 1) (Kt) :
    iprop(records m ρ K ∗ levAts L lv ∗ ow c (Ofirst c + barO c 3) ∗ dutyTok ER (barCell (hop c 3)) 0 3
        ∗ stgAny (F := F) c 3 ∗ cred (tallyAt (barCell c) () 3) ∗ atPos ER (barCell c) 0 ∅ 0
        ∗ hasX m ρ c ∗ hasK m ρ c ∗ hasW m ρ c
        ∗ (∀ (v57 : BitVec 32), (ow c (Ofirst c) ∗ atPos ER (barCell c) 1 ∅ 0 ∗ barPay (F := F) c 1 ∗ barPay (F := F) c 2 ∗ barPay (F := F) c 3
              ∗ hasX m ρ c ∗ hasK m ρ c ∗ hasW m ρ c)
            -∗ Kt ⟨k0_pay1 (kstg m ρ c), k0_pay2 (wstg m ρ c), v57, k0_pay3 (rowOf (xstg m ρ c) (hop c 2)),
                k0_pay4 (kstg m ρ c) (rowOf (xstg m ρ c) (hop c 2)), k0_pay5⟩))
      ⊢ wpc c (k0_part2 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 (SemArray.scalar (sig.barrier 0 rfl)) v30 c4 v31) Kt := by
  rw [k0_part2_eq_skeleton]; unfold k0_part2_skel wpc
  simp only [semSignalWord, semWaitWord, Prog.lift, Prog.bind_op, Prog.bind_ret, Prog.pure_eq_ret, wp_deviceId]
  unfold stgAny hasX hasK hasW
  iintro ⟨#HR, #Hlev, Ho, Ht, Hs, Hc, Hp, Hx, Hkk, Hw, Hk⟩
  iapply (step_raise m ρ K c _ 3 (by decide) (dev3_eq c) _ (by decide) (Ofirst c)) $$ [Ho Ht Hs]
  · isplitr; · iexact HR
    isplitl [Ho]; · iexact Ho
    isplitl [Ht] <;> iassumption
  iintro Ho
  unfold wpc
  iapply (step_gather m ρ K c _ (by decide) (Ofirst c) (above_Ofirst (by decide) c)) $$ [Ho Hc Hp]
  · isplitr; · iexact HR
    isplitr; · iexact Hlev
    isplitl [Ho]; · iexact Ho
    isplitl [Hc] <;> iassumption
  iintro ⟨Ho, Hp, Hb1, Hb2, Hb3⟩
  unfold wpc
  iapply (step_taps c (kstg m ρ c)) $$ Hkk
  iintro Hkk
  unfold wpc
  iapply (step_proj c (wstg m ρ c)) $$ Hw
  iintro Hw
  unfold wpc
  iapply (step_x c (hop c 2) _ _ (off1_2 c) (xstg m ρ c)) $$ Hx
  iintro Hx
  unfold wpc
  rw [wp_ret]; imodintro
  iapply Hk
  isplitl [Ho]; · iexact Ho
  isplitl [Hp]; · iexact Hp
  isplitl [Hb1]; · iexact Hb1
  isplitl [Hb2]; · iexact Hb2
  isplitl [Hb3]; · iexact Hb3
  isplitl [Hx]; · iexact Hx
  isplitl [Hkk] <;> iassumption

/-- The landing rows a barrier hands over, by the device they lie on. -/
theorem barPay_row (c : Dev nD) (e r : Fin 4) (hr : r = back e) : barPay (F := F) c r = stgAny (F := F) (hop c e) r := by
  subst hr; unfold barPay stgAny; rw [back_back]

/-- Row `c + 2`: the chunk is stored and sent. -/
theorem part3_run (c : Dev nD) (v2 v57 : BitVec 32) (Kt) :
    iprop(records m ρ K ∗ ow c (Ofirst c) ∗ outAny (F := F) c (hop c 2) ∗ stgAny (F := F) (hop c 2) 2
        ∗ dutyTok ER (dmaCell c 0 2) 0 0 ∗ dutyTok ER (dmaCell (hop c 2) 1 2) 0 0
        ∗ (∀ (v108 c4 : BitVec 32), (ow c (Olast c + firstO c 3 + firstO c 1) ∗ cred (tallyAt (dmaCell c 0 2) () N)) -∗ Kt ⟨v108, c4⟩))
      ⊢ wpc c (k0_part3 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 (k0_pay1 (kstg m ρ c)) (k0_pay2 (wstg m ρ c)) v57
          (k0_pay3 (rowOf (xstg m ρ c) (hop c 2))) (k0_pay4 (kstg m ρ c) (rowOf (xstg m ρ c) (hop c 2))) k0_pay5) Kt := by
  rw [k0_part3_eq_skeleton]; unfold k0_part3_skel wpc
  simp only [semSignalWord, semWaitWord, Prog.lift, Prog.bind_op, Prog.bind_ret, Prog.pure_eq_ret, wp_deviceId]
  iintro ⟨#HR, Ho, Hout, Hs, Ht, Ht', Hk⟩
  unfold stgAny Ofirst
  unfold outAny
  icases Hout with ⟨%X, Hout⟩
  iapply (step_peek c (hop c 2) _ _ (off1_2 c) X) $$ Hout
  iintro Hout
  unfold wpc
  iapply (step_write c (hop c 2) _ _ (off1_2 c) (chunkAt m ρ c (hop c 2)) X) $$ Hout
  iintro Hout
  unfold wpc
  iapply (step_first m ρ K c _ 2 2 (by decide) (by decide) (dev4_eq c) _ _ sem5_2 sem6_2 _ _ (off2_2 c) _ _ rfl (Olast c + firstO c 3 + firstO c 1)) $$ [Ho Hout Hs Ht Ht']
  · isplitr; · iexact HR
    isplitl [Ho]; · iexact Ho
    isplitl [Hout]; · iexact Hout
    isplitl [Hs]; · iexact Hs
    isplitl [Ht]; · iexact Ht
    iexact Ht'
  iintro ⟨Ho, Hc⟩
  unfold wpc
  rw [wp_ret]; imodintro
  iapply Hk
  isplitl [Ho]; · iexact Ho
  iexact Hc

/-- The load of row `c + 1` of `x`. -/
theorem part4_run (c : Dev nD) (v108 c4 : BitVec 32) (Kt) :
    iprop(hasX m ρ c
        ∗ (∀ (v118 : BitVec 32), hasX m ρ c -∗ Kt ⟨v118, k0_pay7 (k0_pay1 (kstg m ρ c)) (k0_pay2 (wstg m ρ c)) (rowOf (xstg m ρ c) (hop c 1))⟩))
      ⊢ wpc c (k0_part4 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c (k0_pay1 (kstg m ρ c)) (k0_pay2 (wstg m ρ c)) v108 c4) Kt := by
  rw [k0_part4_eq_skeleton]; unfold k0_part4_skel wpc
  simp only [semSignalWord, semWaitWord, Prog.lift, Prog.bind_op, Prog.bind_ret, Prog.pure_eq_ret, wp_deviceId]
  iintro ⟨Hx, Hk⟩
  unfold hasX
  iapply (step_x c (hop c 1) _ _ (off1_1 c) (xstg m ρ c)) $$ Hx
  iintro Hx
  unfold wpc
  rw [wp_ret]; imodintro
  iapply Hk
  iexact Hx

/-- Row `c + 1`: the chunk is stored and sent; the load of row `c + 3` of `x`. -/
theorem part5_run (c : Dev nD) (v2 v118 : BitVec 32) (Kt) :
    iprop(records m ρ K ∗ ow c (Olast c + firstO c 3 + firstO c 1) ∗ outAny (F := F) c (hop c 1) ∗ stgAny (F := F) (hop c 1) 3
        ∗ dutyTok ER (dmaCell c 0 1) 0 0 ∗ dutyTok ER (dmaCell (hop c 1) 1 3) 0 0 ∗ hasX m ρ c
        ∗ (∀ (v179 : BitVec 32), (ow c (Olast c + firstO c 3) ∗ cred (tallyAt (dmaCell c 0 1) () N) ∗ hasX m ρ c)
            -∗ Kt ⟨v179, k0_pay9 (rowOf (xstg m ρ c) (hop c 3)), k0_pay10 (k0_pay1 (kstg m ρ c)) (rowOf (xstg m ρ c) (hop c 3)),
              k0_pay11 (rowOf (xstg m ρ c) (hop c 3)), k0_pay12 (k0_pay1 (kstg m ρ c))⟩))
      ⊢ wpc c (k0_part5 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 (k0_pay1 (kstg m ρ c)) v118
          (k0_pay7 (k0_pay1 (kstg m ρ c)) (k0_pay2 (wstg m ρ c)) (rowOf (xstg m ρ c) (hop c 1)))) Kt := by
  rw [k0_part5_eq_skeleton]; unfold k0_part5_skel wpc
  simp only [semSignalWord, semWaitWord, Prog.lift, Prog.bind_op, Prog.bind_ret, Prog.pure_eq_ret, wp_deviceId]
  iintro ⟨#HR, Ho, Hout, Hs, Ht, Ht', Hx, Hk⟩
  unfold stgAny hasX
  rw [chunk_cut1]
  unfold outAny
  icases Hout with ⟨%X, Hout⟩
  iapply (step_peek c (hop c 1) _ _ (off1_1 c) X) $$ Hout
  iintro Hout
  unfold wpc
  iapply (step_write c (hop c 1) _ _ (off1_1 c) (chunkAt m ρ c (hop c 1)) X) $$ Hout
  iintro Hout
  unfold wpc
  iapply (step_first m ρ K c _ 1 3 (by decide) (by decide) (dev5_eq c) _ _ sem5_1 sem6_3 _ _ (off2_1 c) _ _ rfl (Olast c + firstO c 3)) $$ [Ho Hout Hs Ht Ht']
  · isplitr; · iexact HR
    isplitl [Ho]; · iexact Ho
    isplitl [Hout]; · iexact Hout
    isplitl [Hs]; · iexact Hs
    isplitl [Ht]; · iexact Ht
    iexact Ht'
  iintro ⟨Ho, Hc⟩
  unfold wpc
  iapply (step_x c (hop c 3) _ _ (off1_3 c) (xstg m ρ c)) $$ Hx
  iintro Hx
  unfold wpc
  rw [wp_ret]; imodintro
  iapply Hk
  isplitl [Ho]; · iexact Ho
  isplitl [Hc]; · iexact Hc
  iexact Hx

/-- Row `c + 3`: the chunk is stored and sent; the load of the own row of `x`. -/
theorem part6_run (c : Dev nD) (v2 v179 : BitVec 32) (Kt) :
    iprop(records m ρ K ∗ ow c (Olast c + firstO c 3) ∗ outAny (F := F) c (hop c 3) ∗ stgAny (F := F) (hop c 3) 1
        ∗ dutyTok ER (dmaCell c 0 3) 0 0 ∗ dutyTok ER (dmaCell (hop c 3) 1 1) 0 0 ∗ hasX m ρ c
        ∗ ((ow c (Olast c) ∗ cred (tallyAt (dmaCell c 0 3) () N) ∗ hasX m ρ c)
            -∗ Kt ⟨k0_pay14 (rowOf (xstg m ρ c) c), k0_pay15 (k0_pay1 (kstg m ρ c))⟩))
      ⊢ wpc c (k0_part6 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 (k0_pay1 (kstg m ρ c)) (k0_pay2 (wstg m ρ c)) v179
          (k0_pay9 (rowOf (xstg m ρ c) (hop c 3))) (k0_pay10 (k0_pay1 (kstg m ρ c)) (rowOf (xstg m ρ c) (hop c 3)))
          (k0_pay11 (rowOf (xstg m ρ c) (hop c 3))) (k0_pay12 (k0_pay1 (kstg m ρ c)))) Kt := by
  rw [k0_part6_eq_skeleton]; unfold k0_part6_skel wpc
  simp only [semSignalWord, semWaitWord, Prog.lift, Prog.bind_op, Prog.bind_ret, Prog.pure_eq_ret, wp_deviceId]
  iintro ⟨#HR, Ho, Hout, Hs, Ht, Ht', Hx, Hk⟩
  unfold stgAny hasX
  rw [chunk_cut2]
  unfold outAny
  icases Hout with ⟨%X, Hout⟩
  iapply (step_peek c (hop c 3) _ _ (off1_3 c) X) $$ Hout
  iintro Hout
  unfold wpc
  iapply (step_write c (hop c 3) _ _ (off1_3 c) (chunkAt m ρ c (hop c 3)) X) $$ Hout
  iintro Hout
  unfold wpc
  iapply (step_first m ρ K c _ 3 1 (by decide) (by decide) (dev6_eq c) _ _ sem5_3 sem6_1 _ _ (off2_3 c) _ _ rfl (Olast c)) $$ [Ho Hout Hs Ht Ht']
  · isplitr; · iexact HR
    isplitl [Ho]; · iexact Ho
    isplitl [Hout]; · iexact Hout
    isplitl [Hs]; · iexact Hs
    isplitl [Ht]; · iexact Ht
    iexact Ht'
  iintro ⟨Ho, Hc⟩
  unfold wpc
  iapply (step_x c c _ _ (off3_c c) (xstg m ρ c)) $$ Hx
  iintro Hx
  unfold wpc
  rw [wp_ret]; imodintro
  iapply Hk
  isplitl [Ho]; · iexact Ho
  isplitl [Hc]; · iexact Hc
  iexact Hx

/-- The own chunk. -/
theorem part7_run (c : Dev nD) (v2 : BitVec 32) (Kt) :
    (∀ (v281 c0 : BitVec 32), Kt ⟨chunkAt m ρ c c, v281, c0⟩ : sProp 𝕄)
      ⊢ wpc c (k0_part7 (F := F) xM (Memref.isWhole_whole _) kM (Memref.isWhole_whole _) wM (Memref.isWhole_whole _) oM (Memref.isWhole_whole _)
          gM (Memref.isWhole_whole _) cc0_scratch1 cc0_scratch2 cc0_scratch3 cc0_scratch4 v2 (k0_pay1 (kstg m ρ c)) (k0_pay2 (wstg m ρ c))
          (k0_pay14 (rowOf (xstg m ρ c) c)) (k0_pay15 (k0_pay1 (kstg m ρ c)))) Kt := by
  rw [k0_part7_eq_skeleton]; unfold k0_part7_skel wpc
  simp only [semSignalWord, semWaitWord, Prog.lift, Prog.bind_op, Prog.bind_ret, Prog.pure_eq_ret, wp_deviceId]
  rw [wp_ret, chunk_cut3, show chunk (kstg m ρ c) (wstg m ρ c) (rowOf (xstg m ρ c) c) = chunkAt m ρ c c from rfl]
  iintro Hk
  imodintro
  iapply Hk

/-- The chunks of the devices one and two places on have landed. -/
theorem part8_run (c : Dev nD) (v2 v281 c0 : BitVec 32) (Kt) :
    iprop(records m ρ K ∗ levAts L lv ∗ ow c (Olast c) ∗ cred (tallyAt (dmaCell c 1 1) () N) ∗ atPos ER (dmaCell c 1 1) 0 ∅ 0 ∗ cred (tallyAt (dmaCell c 1 2) () N) ∗ atPos ER (dmaCell c 1 2) 0 ∅ 0
        ∗ (∀ (v306 v307 : BitVec 32) (v308 v309 : BitVec 1) (c0' : BitVec 32),
            (ow c (Olast c) ∗ atPos ER (dmaCell c 1 1) 1 ∅ 0 ∗ dmaPay m ρ c 1 1 ∗ atPos ER (dmaCell c 1 2) 1 ∅ 0 ∗ dmaPay m ρ c 1 2)
            -∗ Kt ⟨v306, v307, v308, v309, c0'⟩))
      ⊢ wpc c (k0_part8 (F := F) xM (Memref.isWhole_whole _) kM (Memref.isWhole_whole _) wM (Memref.isWhole_whole _) oM (Memref.isWhole_whole _)
          gM (Memref.isWhole_whole _) cc0_scratch1 cc0_scratch2 cc0_scratch3 cc0_scratch4 v2 v281 c0) Kt := by
  rw [k0_part8_eq_skeleton]; unfold k0_part8_skel wpc
  simp only [semSignalWord, semWaitWord, Prog.lift, Prog.bind_op, Prog.bind_ret, Prog.pure_eq_ret, wp_deviceId]
  iintro ⟨#HR, #Hlev, Ho, Hc1, Hp1, Hc2, Hp2, Hk⟩
  iapply (step_take m ρ K c 1 1 (by decide) _ sem6_1 (Olast c) (by rw [lv_dma]; exact above_Olast (by decide) c)) $$ [Ho Hc1 Hp1]
  · isplitr; · iexact HR
    isplitr; · iexact Hlev
    isplitl [Ho]; · iexact Ho
    isplitl [Hc1]; · iexact Hc1
    iexact Hp1
  iintro ⟨Ho, Hp1, Hq1⟩
  unfold wpc
  iapply (step_take m ρ K c 1 2 (by decide) _ sem6_2 (Olast c) (by rw [lv_dma]; exact above_Olast (by decide) c)) $$ [Ho Hc2 Hp2]
  · isplitr; · iexact HR
    isplitr; · iexact Hlev
    isplitl [Ho]; · iexact Ho
    isplitl [Hc2]; · iexact Hc2
    iexact Hp2
  iintro ⟨Ho, Hp2, Hq2⟩
  unfold wpc
  rw [wp_ret]; imodintro
  iapply Hk
  isplitl [Ho]; · iexact Ho
  isplitl [Hp1]; · iexact Hp1
  isplitl [Hq1]; · iexact Hq1
  isplitl [Hp2]; · iexact Hp2
  iexact Hq2

/-- The third chunk has landed; the sum is stored in the own row; the first send has left. -/
theorem part9_run (c : Dev nD) (v2 v306 v307 : BitVec 32) (v308 v309 : BitVec 1) (c0 : BitVec 32) (Kt) :
    iprop(records m ρ K ∗ levAts L lv ∗ ow c (Olast c) ∗ cred (tallyAt (dmaCell c 1 3) () N) ∗ atPos ER (dmaCell c 1 3) 0 ∅ 0 ∗ cred (tallyAt (dmaCell c 0 2) () N) ∗ atPos ER (dmaCell c 0 2) 0 ∅ 0
        ∗ stgHas c 1 (chunkAt m ρ (hop c 1) c) ∗ stgHas c 2 (chunkAt m ρ (hop c 2) c) ∗ outAny (F := F) c c
        ∗ ((ow c (Olast c) ∗ atPos ER (dmaCell c 1 3) 1 ∅ 0 ∗ atPos ER (dmaCell c 0 2) 1 ∅ 0 ∗ stgHas c 1 (chunkAt m ρ (hop c 1) c) ∗ stgHas c 2 (chunkAt m ρ (hop c 2) c) ∗ dmaPay m ρ c 1 3
            ∗ outHas c c fullShare (redAt m ρ c)) -∗ Kt ⟨⟩))
      ⊢ wpc c (k0_part9 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 (chunkAt m ρ c c) v306 v307 v308 v309 c0) Kt := by
  rw [k0_part9_eq_skeleton]; unfold k0_part9_skel wpc
  simp only [semSignalWord, semWaitWord, Prog.lift, Prog.bind_op, Prog.bind_ret, Prog.pure_eq_ret, wp_deviceId]
  iintro ⟨#HR, #Hlev, Ho, Hc3, Hp3, Hc2, Hp2, Hg1, Hg2, Hout, Hk⟩
  iapply (step_take m ρ K c 1 3 (by decide) _ sem6_3 (Olast c) (by rw [lv_dma]; exact above_Olast (by decide) c)) $$ [Ho Hc3 Hp3]
  · isplitr; · iexact HR
    isplitr; · iexact Hlev
    isplitl [Ho]; · iexact Ho
    isplitl [Hc3]; · iexact Hc3
    iexact Hp3
  iintro ⟨Ho, Hp3, Hq3⟩
  unfold wpc
  icases (show dmaPay m ρ c 1 3 ⊢ iprop(stgHas c 3 (chunkAt m ρ (hop c 3) c) ∗ ∃ X, outHas (F := F) (hop c 3) c fullShare X) from .rfl) $$ Hq3 with ⟨Hg3, Hr3⟩
  iapply (step_read c 1 _ _ rfl _) $$ Hg1
  iintro Hg1
  unfold wpc
  iapply (step_read c 2 _ _ rfl _) $$ Hg2
  iintro Hg2
  unfold wpc
  iapply (step_read c 3 _ _ rfl _) $$ Hg3
  iintro Hg3
  unfold wpc
  unfold outAny
  icases Hout with ⟨%X, Hout⟩
  iapply (step_peek c c _ _ (off3_c c) X) $$ Hout
  iintro Hout
  unfold wpc
  iapply (step_write c c _ _ (off3_c c) (redAt m ρ c) X) $$ Hout
  iintro Hout
  unfold wpc
  iapply (step_take m ρ K c 0 2 (by decide) _ sem5_2 (Olast c) (by rw [lv_dma]; exact above_Olast (by decide) c)) $$ [Ho Hc2 Hp2]
  · isplitr; · iexact HR
    isplitr; · iexact Hlev
    isplitl [Ho]; · iexact Ho
    isplitl [Hc2]; · iexact Hc2
    iexact Hp2
  iintro ⟨Ho, Hp2, Hq2⟩
  unfold wpc
  rw [wp_ret]; imodintro
  iapply Hk
  isplitl [Ho]; · iexact Ho
  isplitl [Hp3]; · iexact Hp3
  isplitl [Hp2]; · iexact Hp2
  isplitl [Hg1]; · iexact Hg1
  isplitl [Hg2]; · iexact Hg2
  isplitl [Hg3 Hr3]
  · unfold dmaPay firstPay
    isplitl [Hg3] <;> iassumption
  iexact Hout

/-- The other two sends of the first exchange have left; the own row goes to the device one place on. -/
theorem part10_run (c : Dev nD) (v2 : BitVec 32) (Kt) :
    iprop(records m ρ K ∗ levAts L lv ∗ ow c (Olast c) ∗ cred (tallyAt (dmaCell c 0 1) () N) ∗ atPos ER (dmaCell c 0 1) 0 ∅ 0 ∗ cred (tallyAt (dmaCell c 0 3) () N) ∗ atPos ER (dmaCell c 0 3) 0 ∅ 0
        ∗ outHas c c (lent 1) (redAt m ρ c) ∗ outAny (F := F) (hop c 1) c ∗ dutyTok ER (dmaCell c 2 1) 0 0 ∗ dutyTok ER (dmaCell (hop c 1) 3 3) 0 0
        ∗ ((ow c (lastO c 3 + lastO c 2) ∗ atPos ER (dmaCell c 0 1) 1 ∅ 0 ∗ atPos ER (dmaCell c 0 3) 1 ∅ 0 ∗ cred (tallyAt (dmaCell c 2 1) () N)) -∗ Kt ⟨⟩))
      ⊢ wpc c (k0_part10 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2) Kt := by
  rw [k0_part10_eq_skeleton]; unfold k0_part10_skel wpc
  simp only [semSignalWord, semWaitWord, Prog.lift, Prog.bind_op, Prog.bind_ret, Prog.pure_eq_ret, wp_deviceId]
  iintro ⟨#HR, #Hlev, Ho, Hc1, Hp1, Hc3, Hp3, Hsrc, Hdst, Ht, Ht', Hk⟩
  iapply (step_take m ρ K c 0 1 (by decide) _ sem5_1 (Olast c) (by rw [lv_dma]; exact above_Olast (by decide) c)) $$ [Ho Hc1 Hp1]
  · isplitr; · iexact HR
    isplitr; · iexact Hlev
    isplitl [Ho]; · iexact Ho
    isplitl [Hc1]; · iexact Hc1
    iexact Hp1
  iintro ⟨Ho, Hp1, Hq1⟩
  unfold wpc
  iapply (step_take m ρ K c 0 3 (by decide) _ sem5_3 (Olast c) (by rw [lv_dma]; exact above_Olast (by decide) c)) $$ [Ho Hc3 Hp3]
  · isplitr; · iexact HR
    isplitr; · iexact Hlev
    isplitl [Ho]; · iexact Ho
    isplitl [Hc3]; · iexact Hc3
    iexact Hp3
  iintro ⟨Ho, Hp3, Hq3⟩
  unfold wpc
  unfold outAny
  iapply (step_last m ρ K c _ 1 3 (by decide) (by decide) (dev7_eq c) _ _ sem7_1 sem8_3 _ _ _ (off4_c c) (Olast c) (lastO c 3 + lastO c 2) (rfl)) $$ [Ho Hsrc Hdst Ht Ht']
  · isplitr; · iexact HR
    isplitl [Ho]; · iexact Ho
    isplitl [Hsrc]; · iexact Hsrc
    isplitl [Hdst]; · iexact Hdst
    isplitl [Ht]; · iexact Ht
    iexact Ht'
  iintro ⟨Ho, Hc⟩
  unfold wpc
  rw [wp_ret]; imodintro
  iapply Hk
  isplitl [Ho]; · iexact Ho
  isplitl [Hp1]; · iexact Hp1
  isplitl [Hp3]; · iexact Hp3
  iexact Hc

/-- The own row goes to the device two places on. -/
theorem part11_run (c : Dev nD) (v2 : BitVec 32) (Kt) :
    iprop(records m ρ K ∗ ow c (lastO c 3 + lastO c 2) ∗ outHas c c (lent 2) (redAt m ρ c) ∗ outAny (F := F) (hop c 2) c ∗ dutyTok ER (dmaCell c 2 2) 0 0 ∗ dutyTok ER (dmaCell (hop c 2) 3 2) 0 0
        ∗ ((ow c (lastO c 3) ∗ cred (tallyAt (dmaCell c 2 2) () N)) -∗ Kt ⟨⟩))
      ⊢ wpc c (k0_part11 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2) Kt := by
  rw [k0_part11_eq_skeleton]; unfold k0_part11_skel wpc
  simp only [semSignalWord, semWaitWord, Prog.lift, Prog.bind_op, Prog.bind_ret, Prog.pure_eq_ret, wp_deviceId]
  iintro ⟨#HR, Ho, Hsrc, Hdst, Ht, Ht', Hk⟩
  unfold outAny
  iapply (step_last m ρ K c _ 2 2 (by decide) (by decide) (dev8_eq c) _ _ sem7_2 sem8_2 _ _ _ (off4_c c) (lastO c 3 + lastO c 2) (lastO c 3) (rfl)) $$ [Ho Hsrc Hdst Ht Ht']
  · isplitr; · iexact HR
    isplitl [Ho]; · iexact Ho
    isplitl [Hsrc]; · iexact Hsrc
    isplitl [Hdst]; · iexact Hdst
    isplitl [Ht]; · iexact Ht
    iexact Ht'
  iintro ⟨Ho, Hc⟩
  unfold wpc
  rw [wp_ret]; imodintro
  iapply Hk
  isplitl [Ho]; · iexact Ho
  iexact Hc

/-- The own row goes to the device three places on; the first row of the result has arrived. -/
theorem part12_run (c : Dev nD) (v2 : BitVec 32) (Kt) :
    iprop(records m ρ K ∗ levAts L lv ∗ ow c (lastO c 3) ∗ outHas c c (lent 3) (redAt m ρ c) ∗ outAny (F := F) (hop c 3) c ∗ dutyTok ER (dmaCell c 2 3) 0 0 ∗ dutyTok ER (dmaCell (hop c 3) 3 1) 0 0
        ∗ cred (tallyAt (dmaCell c 3 1) () N) ∗ atPos ER (dmaCell c 3 1) 0 ∅ 0
        ∗ (∀ (v422 : BitVec 32) (v427 : BitVec 1) (v428 : BitVec 32),
            (ow c 0 ∗ cred (tallyAt (dmaCell c 2 3) () N) ∗ atPos ER (dmaCell c 3 1) 1 ∅ 0 ∗ dmaPay m ρ c 3 1) -∗ Kt ⟨v422, v427, v428⟩))
      ⊢ wpc c (k0_part12 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2) Kt := by
  rw [k0_part12_eq_skeleton]; unfold k0_part12_skel wpc
  simp only [semSignalWord, semWaitWord, Prog.lift, Prog.bind_op, Prog.bind_ret, Prog.pure_eq_ret, wp_deviceId]
  iintro ⟨#HR, #Hlev, Ho, Hsrc, Hdst, Ht, Ht', Hc1, Hp1, Hk⟩
  unfold outAny
  iapply (step_last m ρ K c _ 3 1 (by decide) (by decide) (dev9_eq c) _ _ sem7_3 sem8_1 _ _ _ (off4_c c) (lastO c 3) (0) ((zero_add _).symm)) $$ [Ho Hsrc Hdst Ht Ht']
  · isplitr; · iexact HR
    isplitl [Ho]; · iexact Ho
    isplitl [Hsrc]; · iexact Hsrc
    isplitl [Hdst]; · iexact Hdst
    isplitl [Ht]; · iexact Ht
    iexact Ht'
  iintro ⟨Ho, Hc⟩
  unfold wpc
  iapply (step_take m ρ K c 3 1 (by decide) _ sem8_1 (0) (above_zero _)) $$ [Ho Hc1 Hp1]
  · isplitr; · iexact HR
    isplitr; · iexact Hlev
    isplitl [Ho]; · iexact Ho
    isplitl [Hc1]; · iexact Hc1
    iexact Hp1
  iintro ⟨Ho, Hp1, Hq1⟩
  unfold wpc
  rw [wp_ret]; imodintro
  iapply Hk
  isplitl [Ho]; · iexact Ho
  isplitl [Hc]; · iexact Hc
  isplitl [Hp1]; · iexact Hp1
  iexact Hq1

/-- The other two rows of the result have arrived. -/
theorem part13_run (c : Dev nD) (v2 v422 : BitVec 32) (v427 : BitVec 1) (v428 : BitVec 32) (Kt) :
    iprop(records m ρ K ∗ levAts L lv ∗ ow c 0 ∗ cred (tallyAt (dmaCell c 3 2) () N) ∗ atPos ER (dmaCell c 3 2) 0 ∅ 0 ∗ cred (tallyAt (dmaCell c 3 3) () N) ∗ atPos ER (dmaCell c 3 3) 0 ∅ 0
        ∗ ((ow c 0 ∗ atPos ER (dmaCell c 3 2) 1 ∅ 0 ∗ dmaPay m ρ c 3 2 ∗ atPos ER (dmaCell c 3 3) 1 ∅ 0 ∗ dmaPay m ρ c 3 3) -∗ Kt ⟨⟩))
      ⊢ wpc c (k0_part13 (F := F) xM (Memref.isWhole_whole _) kM (Memref.isWhole_whole _) wM (Memref.isWhole_whole _) oM (Memref.isWhole_whole _)
          gM (Memref.isWhole_whole _) cc0_scratch1 cc0_scratch2 cc0_scratch3 cc0_scratch4 c v2 v422 v427 v428) Kt := by
  rw [k0_part13_eq_skeleton]; unfold k0_part13_skel wpc
  simp only [semSignalWord, semWaitWord, Prog.lift, Prog.bind_op, Prog.bind_ret, Prog.pure_eq_ret, wp_deviceId]
  iintro ⟨#HR, #Hlev, Ho, Hc2, Hp2, Hc3, Hp3, Hk⟩
  iapply (step_take m ρ K c 3 2 (by decide) _ sem8_2 (0) (above_zero _)) $$ [Ho Hc2 Hp2]
  · isplitr; · iexact HR
    isplitr; · iexact Hlev
    isplitl [Ho]; · iexact Ho
    isplitl [Hc2]; · iexact Hc2
    iexact Hp2
  iintro ⟨Ho, Hp2, Hq2⟩
  unfold wpc
  iapply (step_take m ρ K c 3 3 (by decide) _ sem8_3 (0) (above_zero _)) $$ [Ho Hc3 Hp3]
  · isplitr; · iexact HR
    isplitr; · iexact Hlev
    isplitl [Ho]; · iexact Ho
    isplitl [Hc3]; · iexact Hc3
    iexact Hp3
  iintro ⟨Ho, Hp3, Hq3⟩
  unfold wpc
  rw [wp_ret]; imodintro
  iapply Hk
  isplitl [Ho]; · iexact Ho
  isplitl [Hp2]; · iexact Hp2
  isplitl [Hq2]; · iexact Hq2
  isplitl [Hp3]; · iexact Hp3
  iexact Hq3

end Parts

end Cert.KernelIdeal.Exchange

end
-- ==== Proof.KernelIdealBody.lean ====
/-
# The kernel's body from start to end

The thirteen parts in order, then the three waits for the sends of the second exchange.
-/
module

public import proofs.«01_k».proof.Proof.KernelIdealParts

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CI → ℕ)

omit [FloatOps F] in
/-- A row held in full is the three parts lent to the three sends; -/
theorem row_lend (c i : Dev nD) (X : RowV F) : outHas c i fullShare X ⊢ (iprop(outHas c i (lent 1) X ∗ outHas c i (lent 2) X ∗ outHas c i (lent 3) X) : sProp 𝕄) := by
  unfold outHas
  iintro H
  icases (owns_halves (c : Thread nD τ) (outRow i) fullShare X).1 $$ H with ⟨H1, H⟩
  icases (owns_halves (c : Thread nD τ) (outRow i) (fullShare : PosShare TreeShare).right X).1 $$ H with ⟨H2, H3⟩
  isplitl [H1]; · iexact H1
  isplitl [H2]; · iexact H2
  iexact H3
omit [FloatOps F] in
/-- and back. -/
theorem row_back (c i : Dev nD) (X : RowV F) : (iprop(outHas c i (lent 1) X ∗ outHas c i (lent 2) X ∗ outHas c i (lent 3) X) : sProp 𝕄) ⊢ outHas c i fullShare X := by
  unfold outHas
  iintro ⟨H1, H2, H3⟩
  iapply (owns_halves (c : Thread nD τ) (outRow i) fullShare X).2
  isplitl [H1]; · iexact H1
  iapply (owns_halves (c : Thread nD τ) (outRow i) (fullShare : PosShare TreeShare).right X).2
  isplitl [H2]; · iexact H2
  iexact H3

/-- What a device holds when its body starts: what it owes, the tokens of the duties it pays, the rows of its two
    buffers it hands out or writes, its launch credit, its positions, its three operands. -/
def coreIn (c : Dev nD) : sProp 𝕄 :=
  iprop(ow c (O₀ c) ∗ dutyTok ER (barCell (hop c 1)) 0 1 ∗ dutyTok ER (barCell (hop c 2)) 0 2 ∗ dutyTok ER (barCell (hop c 3)) 0 3
      ∗ dutyTok ER (dmaCell c 0 1) 0 0 ∗ dutyTok ER (dmaCell c 0 2) 0 0 ∗ dutyTok ER (dmaCell c 0 3) 0 0 ∗ dutyTok ER (dmaCell (hop c 3) 1 1) 0 0
      ∗ dutyTok ER (dmaCell (hop c 2) 1 2) 0 0 ∗ dutyTok ER (dmaCell (hop c 1) 1 3) 0 0 ∗ dutyTok ER (dmaCell c 2 1) 0 0 ∗ dutyTok ER (dmaCell c 2 2) 0 0
      ∗ dutyTok ER (dmaCell c 2 3) 0 0 ∗ dutyTok ER (dmaCell (hop c 3) 3 1) 0 0 ∗ dutyTok ER (dmaCell (hop c 2) 3 2) 0 0 ∗ dutyTok ER (dmaCell (hop c 1) 3 3) 0 0
      ∗ stgAny (F := F) c 1 ∗ stgAny (F := F) c 2 ∗ stgAny (F := F) c 3 ∗ outAny (F := F) c (hop c 1)
      ∗ outAny (F := F) c (hop c 2) ∗ outAny (F := F) c (hop c 3) ∗ outAny (F := F) c c ∗ cred (tallyAt (barCell c) () 3)
      ∗ cred (tallyAt (dmaCell c 1 1) () N) ∗ cred (tallyAt (dmaCell c 1 2) () N) ∗ cred (tallyAt (dmaCell c 1 3) () N) ∗ cred (tallyAt (dmaCell c 3 1) () N)
      ∗ cred (tallyAt (dmaCell c 3 2) () N) ∗ cred (tallyAt (dmaCell c 3 3) () N) ∗ atPos ER (barCell c) 0 ∅ 0 ∗ atPos ER (dmaCell c 0 1) 0 ∅ 0
      ∗ atPos ER (dmaCell c 0 2) 0 ∅ 0 ∗ atPos ER (dmaCell c 0 3) 0 ∅ 0 ∗ atPos ER (dmaCell c 1 1) 0 ∅ 0 ∗ atPos ER (dmaCell c 1 2) 0 ∅ 0
      ∗ atPos ER (dmaCell c 1 3) 0 ∅ 0 ∗ atPos ER (dmaCell c 2 1) 0 ∅ 0 ∗ atPos ER (dmaCell c 2 2) 0 ∅ 0 ∗ atPos ER (dmaCell c 2 3) 0 ∅ 0
      ∗ atPos ER (dmaCell c 3 1) 0 ∅ 0 ∗ atPos ER (dmaCell c 3 2) 0 ∅ 0 ∗ atPos ER (dmaCell c 3 3) 0 ∅ 0 ∗ hasX m ρ c
      ∗ hasK m ρ c ∗ hasW m ρ c)

/-- What it holds when its body ends: nothing owed, its positions one round on, its operands, the scratch rows that
    landed, the lent parts of its own result row, the three result rows that landed. -/
def coreOut (c : Dev nD) : sProp 𝕄 :=
  iprop(ow c 0 ∗ atPos ER (barCell c) 1 ∅ 0 ∗ atPos ER (dmaCell c 0 1) 1 ∅ 0 ∗ atPos ER (dmaCell c 0 2) 1 ∅ 0
      ∗ atPos ER (dmaCell c 0 3) 1 ∅ 0 ∗ atPos ER (dmaCell c 1 1) 1 ∅ 0 ∗ atPos ER (dmaCell c 1 2) 1 ∅ 0 ∗ atPos ER (dmaCell c 1 3) 1 ∅ 0
      ∗ atPos ER (dmaCell c 2 1) 1 ∅ 0 ∗ atPos ER (dmaCell c 2 2) 1 ∅ 0 ∗ atPos ER (dmaCell c 2 3) 1 ∅ 0 ∗ atPos ER (dmaCell c 3 1) 1 ∅ 0
      ∗ atPos ER (dmaCell c 3 2) 1 ∅ 0 ∗ atPos ER (dmaCell c 3 3) 1 ∅ 0 ∗ hasX m ρ c ∗ hasK m ρ c
      ∗ hasW m ρ c ∗ stgHas c 1 (chunkAt m ρ (hop c 1) c) ∗ stgHas c 2 (chunkAt m ρ (hop c 2) c) ∗ stgHas c 3 (chunkAt m ρ (hop c 3) c)
      ∗ dmaPay m ρ c 2 1 ∗ dmaPay m ρ c 2 2 ∗ dmaPay m ρ c 2 3 ∗ dmaPay m ρ c 3 1
      ∗ dmaPay m ρ c 3 2 ∗ dmaPay m ρ c 3 3)

set_option maxHeartbeats 1600000 in
/-- The body runs from the one to the other. -/
theorem core_run (c : Dev nD) (Kt : PUnit → sProp 𝕄) :
    iprop(records m ρ K ∗ levAts L lv ∗ coreIn m ρ c ∗ (coreOut m ρ c -∗ Kt ⟨⟩))
      ⊢ wpc c (cc0_body (F := F) xM (Memref.isWhole_whole _) kM (Memref.isWhole_whole _) wM (Memref.isWhole_whole _) oM (Memref.isWhole_whole _)
        gM (Memref.isWhole_whole _) cc0_scratch1 cc0_scratch2 cc0_scratch3 cc0_scratch4) Kt := by
  rw [cc0_body_eq_skeleton]; unfold cc0_body_skel wpc coreIn
  iintro ⟨#HR, #Hlev, ⟨Ho, Tb1, Tb2, Tb3, T01, T02, T03, T11, T12, T13, T21, T22, T23, T31, T32, T33, S1, S2, S3, D1, D2, D3, Dc, Cb, C11, C12, C13, C31, C32, C33, Pb, P01, P02, P03, P11, P12, P13, P21, P22, P23, P31, P32, P33, HX, HK, HW⟩, Hk⟩
  rw [wp_bind]
  iapply (part1_run m ρ K c _)
  isplitr; · iexact HR
  isplitl [Ho]; · iexact Ho
  isplitl [Tb1]; · iexact Tb1
  isplitl [Tb2]; · iexact Tb2
  isplitl [S1]; · iexact S1
  isplitl [S2]; · iexact S2
  iintro %v2 %v30 %c4 %v31
  iintro Ho
  dsimp only
  rw [wp_bind]
  iapply (part2_run m ρ K c v2 v30 c4 v31 _)
  isplitr; · iexact HR
  isplitr; · iexact Hlev
  isplitl [Ho]; · iexact Ho
  isplitl [Tb3]; · iexact Tb3
  isplitl [S3]; · iexact S3
  isplitl [Cb]; · iexact Cb
  isplitl [Pb]; · iexact Pb
  isplitl [HX]; · iexact HX
  isplitl [HK]; · iexact HK
  isplitl [HW]; · iexact HW
  iintro %v57
  iintro ⟨Ho, Pb, B1, B2, B3, HX, HK, HW⟩
  dsimp only
  ihave G1 := (Entails.of_eq (barPay_row c 3 1 (by decide))) $$ B1
  ihave G2 := (Entails.of_eq (barPay_row c 2 2 (by decide))) $$ B2
  ihave G3 := (Entails.of_eq (barPay_row c 1 3 (by decide))) $$ B3
  rw [wp_bind]
  iapply (part3_run m ρ K c v2 v57 _)
  isplitr; · iexact HR
  isplitl [Ho]; · iexact Ho
  isplitl [D2]; · iexact D2
  isplitl [G2]; · iexact G2
  isplitl [T02]; · iexact T02
  isplitl [T12]; · iexact T12
  iintro %v108 %c4
  iintro ⟨Ho, C02⟩
  dsimp only
  rw [wp_bind]
  iapply (part4_run m ρ c v108 c4 _)
  isplitl [HX]; · iexact HX
  iintro %v118
  iintro HX
  dsimp only
  rw [wp_bind]
  iapply (part5_run m ρ K c v2 v118 _)
  isplitr; · iexact HR
  isplitl [Ho]; · iexact Ho
  isplitl [D1]; · iexact D1
  isplitl [G3]; · iexact G3
  isplitl [T01]; · iexact T01
  isplitl [T13]; · iexact T13
  isplitl [HX]; · iexact HX
  iintro %v179
  iintro ⟨Ho, C01, HX⟩
  dsimp only
  rw [wp_bind]
  iapply (part6_run m ρ K c v2 v179 _)
  isplitr; · iexact HR
  isplitl [Ho]; · iexact Ho
  isplitl [D3]; · iexact D3
  isplitl [G1]; · iexact G1
  isplitl [T03]; · iexact T03
  isplitl [T11]; · iexact T11
  isplitl [HX]; · iexact HX
  iintro ⟨Ho, C03, HX⟩
  dsimp only
  rw [wp_bind]
  iapply (part7_run m ρ c v2 _)
  iintro %v281 %c0
  dsimp only
  rw [wp_bind]
  iapply (part8_run m ρ K c v2 v281 c0 _)
  isplitr; · iexact HR
  isplitr; · iexact Hlev
  isplitl [Ho]; · iexact Ho
  isplitl [C11]; · iexact C11
  isplitl [P11]; · iexact P11
  isplitl [C12]; · iexact C12
  isplitl [P12]; · iexact P12
  iintro %v306 %v307 %v308 %v309 %c0'
  iintro ⟨Ho, P11, Q1, P12, Q2⟩
  dsimp only
  icases (show dmaPay m ρ c 1 1 ⊢ iprop(stgHas c 1 (chunkAt m ρ (hop c 1) c) ∗ outAny (F := F) (hop c 1) c) from .rfl) $$ Q1 with ⟨Q1a, E1⟩
  icases (show dmaPay m ρ c 1 2 ⊢ iprop(stgHas c 2 (chunkAt m ρ (hop c 2) c) ∗ outAny (F := F) (hop c 2) c) from .rfl) $$ Q2 with ⟨Q2a, E2⟩
  rw [wp_bind]
  iapply (part9_run m ρ K c v2 v306 v307 v308 v309 c0' _)
  isplitr; · iexact HR
  isplitr; · iexact Hlev
  isplitl [Ho]; · iexact Ho
  isplitl [C13]; · iexact C13
  isplitl [P13]; · iexact P13
  isplitl [C02]; · iexact C02
  isplitl [P02]; · iexact P02
  isplitl [Q1a]; · iexact Q1a
  isplitl [Q2a]; · iexact Q2a
  isplitl [Dc]; · iexact Dc
  iintro ⟨Ho, P13, P02, Q1a, Q2a, Q3, Hc⟩
  icases (show dmaPay m ρ c 1 3 ⊢ iprop(stgHas c 3 (chunkAt m ρ (hop c 3) c) ∗ outAny (F := F) (hop c 3) c) from .rfl) $$ Q3 with ⟨Q3a, E3⟩
  icases (row_lend c c (redAt m ρ c)) $$ Hc with ⟨L1, L2, L3⟩
  rw [wp_bind]
  iapply (part10_run m ρ K c v2 _)
  isplitr; · iexact HR
  isplitr; · iexact Hlev
  isplitl [Ho]; · iexact Ho
  isplitl [C01]; · iexact C01
  isplitl [P01]; · iexact P01
  isplitl [C03]; · iexact C03
  isplitl [P03]; · iexact P03
  isplitl [L1]; · iexact L1
  isplitl [E1]; · iexact E1
  isplitl [T21]; · iexact T21
  isplitl [T33]; · iexact T33
  iintro ⟨Ho, P01, P03, C21⟩
  rw [wp_bind]
  iapply (part11_run m ρ K c v2 _)
  isplitr; · iexact HR
  isplitl [Ho]; · iexact Ho
  isplitl [L2]; · iexact L2
  isplitl [E2]; · iexact E2
  isplitl [T22]; · iexact T22
  isplitl [T32]; · iexact T32
  iintro ⟨Ho, C22⟩
  rw [wp_bind]
  iapply (part12_run m ρ K c v2 _)
  isplitr; · iexact HR
  isplitr; · iexact Hlev
  isplitl [Ho]; · iexact Ho
  isplitl [L3]; · iexact L3
  isplitl [E3]; · iexact E3
  isplitl [T23]; · iexact T23
  isplitl [T31]; · iexact T31
  isplitl [C31]; · iexact C31
  isplitl [P31]; · iexact P31
  iintro %v422 %v427 %v428
  iintro ⟨Ho, C23, P31, R1⟩
  dsimp only
  rw [wp_bind]
  iapply (part13_run m ρ K c v2 v422 v427 v428 _)
  isplitr; · iexact HR
  isplitr; · iexact Hlev
  isplitl [Ho]; · iexact Ho
  isplitl [C32]; · iexact C32
  isplitl [P32]; · iexact P32
  isplitl [C33]; · iexact C33
  isplitl [P33]; · iexact P33
  iintro ⟨Ho, P32, R2, P33, R3⟩
  simp only [Prog.lift, Prog.bind_op, Prog.bind_ret, Prog.pure_eq_ret]
  iapply (step_take m ρ K c 2 1 (by decide) _ sem7_1 0 (above_zero _)) $$ [Ho C21 P21]
  · isplitr; · iexact HR
    isplitr; · iexact Hlev
    isplitl [Ho]; · iexact Ho
    isplitl [C21]; · iexact C21
    iexact P21
  iintro ⟨Ho, P21, V1⟩
  unfold wpc
  iapply (step_take m ρ K c 2 2 (by decide) _ sem7_2 0 (above_zero _)) $$ [Ho C22 P22]
  · isplitr; · iexact HR
    isplitr; · iexact Hlev
    isplitl [Ho]; · iexact Ho
    isplitl [C22]; · iexact C22
    iexact P22
  iintro ⟨Ho, P22, V2⟩
  unfold wpc
  iapply (step_take m ρ K c 2 3 (by decide) _ sem7_3 0 (above_zero _)) $$ [Ho C23 P23]
  · isplitr; · iexact HR
    isplitr; · iexact Hlev
    isplitl [Ho]; · iexact Ho
    isplitl [C23]; · iexact C23
    iexact P23
  iintro ⟨Ho, P23, V3⟩
  unfold wpc
  rw [wp_ret]; imodintro
  iapply Hk
  unfold coreOut
  isplitl [Ho]; · iexact Ho
  isplitl [Pb]; · iexact Pb
  isplitl [P01]; · iexact P01
  isplitl [P02]; · iexact P02
  isplitl [P03]; · iexact P03
  isplitl [P11]; · iexact P11
  isplitl [P12]; · iexact P12
  isplitl [P13]; · iexact P13
  isplitl [P21]; · iexact P21
  isplitl [P22]; · iexact P22
  isplitl [P23]; · iexact P23
  isplitl [P31]; · iexact P31
  isplitl [P32]; · iexact P32
  isplitl [P33]; · iexact P33
  isplitl [HX]; · iexact HX
  isplitl [HK]; · iexact HK
  isplitl [HW]; · iexact HW
  isplitl [Q1a]; · iexact Q1a
  isplitl [Q2a]; · iexact Q2a
  isplitl [Q3a]; · iexact Q3a
  isplitl [V1]; · iexact V1
  isplitl [V2]; · iexact V2
  isplitl [V3]; · iexact V3
  isplitl [R1]; · iexact R1
  isplitl [R2]; · iexact R2
  iexact R3

end Body

end Cert.KernelIdeal.Exchange

end
-- ==== Proof.KernelIdealLaunch.lean ====
/-
# From the body to the run of the program

The body's obligation towards the pipeline, then the launch: the ghost state of the exchange is minted per device for its
own semaphores, and the tokens are dealt to the devices that pay the duties.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting a buffer into its rows and joining it again -/

theorem hop_zero (c : Dev nD) : hop c 0 = c := by revert c; decide

/-- The rows of a device's buffers, counted from the device's own. -/
def spin (c : Dev nD) : Fin 4 ≃ Fin 4 :=
  ⟨fun d => hop c d, fun t => hop t (back c), fun d => by revert c d; decide, fun t => by revert c t; decide⟩

section Rows

variable (c : Dev nD)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_spin (Φ : Fin 4 → sProp 𝕄) : bigSep Finset.univ Φ = iprop(Φ c ∗ Φ (hop c 1) ∗ Φ (hop c 2) ∗ Φ (hop c 3)) := by
  rw [bigSep_univ_equiv (spin c), bigSep_four]
  show iprop(Φ (hop c 0) ∗ Φ (hop c 1) ∗ Φ (hop c 2) ∗ Φ (hop c 3)) = _
  rw [hop_zero]

omit [FloatOps F] in
/-- A buffer of four rows held whole is its rows, -/
theorem rows_split (M : Memref sig .tc .vmem S4x512x256 .f32) (X : S4x512x256.Idx → Elt F .f32) :
    (owns (c : Thread nD τ) M fullShare X : sProp 𝕄)
      ⊢ bigSep Finset.univ fun i : Fin 4 => owns (c : Thread nD τ) (M.slice (rowR i) (fun _ => rfl)) fullShare (rowOf X i) :=
  owns_rects (c : Thread nD τ) M fullShare rowR (fun _ _ => rfl) rows_disjoint rows_cover X

/-- The contents made of four given rows. -/
def ofRows (Xs : Fin 4 → RowV F) : S4x512x256.Idx → Elt F .f32 := Rect.glue rowR rows_cover Xs

omit [FloatOps F] in
theorem rowOf_ofRows (Xs : Fin 4 → RowV F) (i : Fin 4) : rowOf (ofRows Xs) i = Xs i :=
  funext fun y => Rect.glue_emb rowR rows_cover rows_disjoint Xs i y

/-- and the rows together are the buffer. -/
theorem rows_join (M : Memref sig .tc .vmem S4x512x256 .f32) (Xs : Fin 4 → RowV F) :
    (bigSep Finset.univ fun i : Fin 4 => owns (c : Thread nD τ) (M.slice (rowR i) (fun _ => rfl)) fullShare (Xs i))
      ⊢ (owns (c : Thread nD τ) M fullShare (ofRows Xs) : sProp 𝕄) := by
  have h := owns_of_rects (Ix := Unit) (Name := ℕ) (U := UU) (Lvl := ℕ) (c : Thread nD τ) M fullShare rowR (fun _ _ => rfl) rows_disjoint rows_cover (ofRows Xs)
  have e : (fun i : Fin 4 => (owns (c : Thread nD τ) (M.slice (rowR i) (fun _ => rfl)) fullShare (fun j => ofRows Xs ((rowR i).emb j)) : sProp 𝕄))
      = fun i => owns (c : Thread nD τ) (M.slice (rowR i) (fun _ => rfl)) fullShare (Xs i) :=
    funext fun i => by rw [← rowOf_ofRows Xs i]; rfl
  rw [e] at h
  exact h

omit [FloatOps F] in
theorem out_split (X : S4x512x256.Idx → Elt F .f32) :
    (owns (c : Thread nD τ) oM fullShare X : sProp 𝕄)
      ⊢ iprop(outAny (F := F) c c ∗ outAny (F := F) c (hop c 1) ∗ outAny (F := F) c (hop c 2) ∗ outAny (F := F) c (hop c 3)) := by
  refine (rows_split c oM X).trans ?_
  rw [bigSep_spin c]
  unfold outAny outHas
  iintro ⟨H0, H1, H2, H3⟩
  isplitl [H0]; · iexists _; iexact H0
  isplitl [H1]; · iexists _; iexact H1
  isplitl [H2]; · iexists _; iexact H2
  iexists _; iexact H3

omit [FloatOps F] in
theorem stg_split (X : S4x512x256.Idx → Elt F .f32) :
    (owns (c : Thread nD τ) gM fullShare X : sProp 𝕄)
      ⊢ iprop(stgAny (F := F) c 0 ∗ stgAny (F := F) c 1 ∗ stgAny (F := F) c 2 ∗ stgAny (F := F) c 3) := by
  refine (rows_split c gM X).trans ?_
  rw [bigSep_four]
  unfold stgAny stgHas
  iintro ⟨H0, H1, H2, H3⟩
  isplitl [H0]; · iexists _; iexact H0
  isplitl [H1]; · iexists _; iexact H1
  isplitl [H2]; · iexists _; iexact H2
  iexists _; iexact H3

theorem stg_join : (iprop(stgAny (F := F) c 0 ∗ stgAny (F := F) c 1 ∗ stgAny (F := F) c 2 ∗ stgAny (F := F) c 3) : sProp 𝕄)
    ⊢ iprop(∃ X, owns (c : Thread nD τ) gM fullShare X) := by
  unfold stgAny stgHas
  iintro ⟨⟨%X0, H0⟩, ⟨%X1, H1⟩, ⟨%X2, H2⟩, ⟨%X3, H3⟩⟩
  iexists ofRows ![X0, X1, X2, X3]
  iapply (rows_join c gM ![X0, X1, X2, X3])
  rw [bigSep_four]
  isplitl [H0]; · iexact H0
  isplitl [H1]; · iexact H1
  isplitl [H2]; · iexact H2
  iexact H3

theorem out_join (Xs : Fin 4 → RowV F) :
    (iprop(outHas c c fullShare (Xs c) ∗ outHas c (hop c 1) fullShare (Xs (hop c 1)) ∗ outHas c (hop c 2) fullShare (Xs (hop c 2))
        ∗ outHas c (hop c 3) fullShare (Xs (hop c 3))) : sProp 𝕄)
      ⊢ owns (c : Thread nD τ) oM fullShare (ofRows Xs) := by
  refine .trans ?_ (rows_join c oM Xs)
  rw [bigSep_spin c]
  exact .rfl

end Rows

/-! ## What a device starts and ends with -/

omit [FloatOps F] in
/-- Conjoining over a device's semaphores. -/
theorem bigSep_CI (Φ : CI → sProp 𝕄) : bigSep Finset.univ Φ = iprop(Φ none ∗ Φ (some (0, 0)) ∗ Φ (some (0, 1)) ∗ Φ (some (0, 2)) ∗ Φ (some (0, 3)) ∗ Φ (some (1, 0)) ∗ Φ (some (1, 1)) ∗ Φ (some (1, 2))
      ∗ Φ (some (1, 3)) ∗ Φ (some (2, 0)) ∗ Φ (some (2, 1)) ∗ Φ (some (2, 2)) ∗ Φ (some (2, 3)) ∗ Φ (some (3, 0)) ∗ Φ (some (3, 1)) ∗ Φ (some (3, 2))
      ∗ Φ (some (3, 3))) :=
  bigSep_univ_eq_bigSepL [none, some (0, 0), some (0, 1), some (0, 2), some (0, 3), some (1, 0), some (1, 1), some (1, 2), some (1, 3), some (2, 0), some (2, 1), some (2, 2), some (2, 3), some (3, 0), some (3, 1), some (3, 2), some (3, 3)] (by decide) (by decide) Φ

/-- A device's fifteen duty tokens, as minted for its own semaphores: three for the barrier (`none`), three for each array. -/
abbrev TI : Type := Option (Fin 4) × Fin 3
def tokCell (c : Dev nD) : TI → GSem nD τ sig
  | (none, _) => barCell c
  | (some a, e) => dmaCell c a e.succ
def tokDuty : TI → Fin 4
  | (none, e) => e.succ
  | (some _, _) => 0
/-- How far on the device is whose duty a device pays. -/
def shift : TI → Fin 4
  | (none, e) => e.succ
  | (some 0, _) => 0
  | (some 1, e) => back e.succ
  | (some 2, _) => 0
  | (some 3, e) => back e.succ
/-- The tokens of the duties device `c` pays. -/
def payToks (c : Dev nD) : sProp 𝕄 := bigSep Finset.univ fun x : TI => dutyTok ER (tokCell (hop c (shift x)) x) 0 (tokDuty x)

omit [FloatOps F] in
theorem bigSep_TI (Φ : TI → sProp 𝕄) : bigSep Finset.univ Φ = iprop(Φ (none, 0) ∗ Φ (none, 1) ∗ Φ (none, 2) ∗ Φ (some 0, 0) ∗ Φ (some 0, 1) ∗ Φ (some 0, 2) ∗ Φ (some 1, 0) ∗ Φ (some 1, 1)
      ∗ Φ (some 1, 2) ∗ Φ (some 2, 0) ∗ Φ (some 2, 1) ∗ Φ (some 2, 2) ∗ Φ (some 3, 0) ∗ Φ (some 3, 1) ∗ Φ (some 3, 2)) :=
  bigSep_univ_eq_bigSepL [(none, 0), (none, 1), (none, 2), (some 0, 0), (some 0, 1), (some 0, 2), (some 1, 0), (some 1, 1), (some 1, 2), (some 2, 0), (some 2, 1), (some 2, 2), (some 3, 0), (some 3, 1), (some 3, 2)] (by decide) (by decide) Φ

omit [FloatOps F] in
theorem payToks_list (c : Dev nD) : (payToks (F := F) c : sProp 𝕄)
    = iprop(dutyTok ER (barCell (hop c 1)) 0 1 ∗ dutyTok ER (barCell (hop c 2)) 0 2 ∗ dutyTok ER (barCell (hop c 3)) 0 3
      ∗ dutyTok ER (dmaCell c 0 1) 0 0 ∗ dutyTok ER (dmaCell c 0 2) 0 0 ∗ dutyTok ER (dmaCell c 0 3) 0 0
      ∗ dutyTok ER (dmaCell (hop c 3) 1 1) 0 0 ∗ dutyTok ER (dmaCell (hop c 2) 1 2) 0 0 ∗ dutyTok ER (dmaCell (hop c 1) 1 3) 0 0
      ∗ dutyTok ER (dmaCell c 2 1) 0 0 ∗ dutyTok ER (dmaCell c 2 2) 0 0 ∗ dutyTok ER (dmaCell c 2 3) 0 0
      ∗ dutyTok ER (dmaCell (hop c 3) 3 1) 0 0 ∗ dutyTok ER (dmaCell (hop c 2) 3 2) 0 0 ∗ dutyTok ER (dmaCell (hop c 1) 3 3) 0 0) := by
  unfold payToks
  rw [bigSep_TI]
  show iprop(dutyTok ER (barCell (hop c 1)) 0 1 ∗ dutyTok ER (barCell (hop c 2)) 0 2 ∗ dutyTok ER (barCell (hop c 3)) 0 3
      ∗ dutyTok ER (dmaCell (hop c 0) 0 1) 0 0 ∗ dutyTok ER (dmaCell (hop c 0) 0 2) 0 0 ∗ dutyTok ER (dmaCell (hop c 0) 0 3) 0 0
      ∗ dutyTok ER (dmaCell (hop c 3) 1 1) 0 0 ∗ dutyTok ER (dmaCell (hop c 2) 1 2) 0 0 ∗ dutyTok ER (dmaCell (hop c 1) 1 3) 0 0
      ∗ dutyTok ER (dmaCell (hop c 0) 2 1) 0 0 ∗ dutyTok ER (dmaCell (hop c 0) 2 2) 0 0 ∗ dutyTok ER (dmaCell (hop c 0) 2 3) 0 0
      ∗ dutyTok ER (dmaCell (hop c 3) 3 1) 0 0 ∗ dutyTok ER (dmaCell (hop c 2) 3 2) 0 0 ∗ dutyTok ER (dmaCell (hop c 1) 3 3) 0 0) = _
  rw [hop_zero]

/-- Its positions: at round 0 of each of its semaphores. -/
def posAll (c : Dev nD) : sProp 𝕄 := bigSep Finset.univ fun k : CI => atPos ER (kcell (c, k)) 0 ∅ 0

/-- Its launch credit: the three raises of its barrier, and the three landings of each exchange. -/
def launchHas (c : Dev nD) : sProp 𝕄 :=
  iprop(cred (tallyAt (barCell c) () 3)
    ∗ cred (tallyAt (dmaCell c 1 1) () N) ∗ cred (tallyAt (dmaCell c 1 2) () N) ∗ cred (tallyAt (dmaCell c 1 3) () N)
    ∗ cred (tallyAt (dmaCell c 3 1) () N) ∗ cred (tallyAt (dmaCell c 3 2) () N) ∗ cred (tallyAt (dmaCell c 3 3) () N))

/-- What device `c`'s body starts from. -/
def start (c : Dev nD) : sProp 𝕄 :=
  iprop((∃ K, records m ρ K ∗ posAll c ∗ payToks c) ∗ launchHas c ∗ levAts L lv)

/-- Its semaphores at zero. -/
def semZeros (c : Dev nD) : sProp 𝕄 := bigSep Finset.univ fun k : CI => semVal (kcell (c, k)) 0

def scratchAny (c : Dev nD) : sProp 𝕄 := iprop(∃ X, owns (c : Thread nD τ) gM fullShare X)

/-- The result: every row summed over the four devices. -/
def outAt : (cc0_stg3_0 : Ref sig .tc).ty.Contents (Elt F) := ofRows (redAt m ρ)

def Φ₀ (c : Dev nD) : sProp 𝕄 := iprop(start m ρ c ∗ scratchAny (F := F) c)
def Φ₁ (c : Dev nD) : sProp 𝕄 := iprop(scratchAny (F := F) c ∗ semZeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => wstg m ρ c
    | ⟨3, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## Closing the semaphores -/

/-- The round a device's semaphores have reached at the end: 1 where the body waited, 0 where nothing ever happens. -/
def endRound : CI → ℕ
  | none => 1
  | some (_, j) => if j = 0 then 0 else 1

theorem end_duties (c : Dev nD) (k : CI) : ∀ r, endRound k ≤ r → (exRd (F := F) m ρ).duties (kcell (c, k)) r = ∅ := by
  rcases k with _ | ⟨a, j⟩
  · exact duties_later m ρ (barCell c)
  · by_cases h : j = 0
    · subst h; exact duties_idle m ρ c a
    · have e : endRound (some (a, j)) = 1 := if_neg h
      rw [e]; exact duties_later m ρ (dmaCell c a j)

section Body

variable (K : Dev nD × CI → ℕ)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (c : Dev nD) (k : CI) :
    iprop(records m ρ K ∗ atPos ER (kcell (c, k)) (endRound k) ∅ 0) ⊢ (|={Set.univ}=> semVal (kcell (c, k)) 0 : sProp 𝕄) := by
  iintro ⟨#HR, Hp⟩
  imod (Rounds.cell_close ER (exRd m ρ) (Set.mem_univ (K (c, k))) (fun h => h) (R := endRound k) (end_duties m ρ c k)) $$ [Hp] with Hz
  · isplitr; · iapply (inv_at m ρ K (c, k)); iexact HR
    iexact Hp
  imodintro
  iexact Hz

theorem close_all (c : Dev nD) :
    iprop(records m ρ K ∗ bigSep Finset.univ fun k : CI => atPos ER (kcell (c, k)) (endRound k) ∅ 0) ⊢ (|={Set.univ}=> semZeros (F := F) c : sProp 𝕄) :=
  (bigSep_with_persistent fun k _ => close_one m ρ K c k).trans (bigSep_fupd _ _)

/-! ## The body -/

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 4) t0_0 d))
    ∗ (∃ d, owns (c : Thread nD τ) kM fullShare ((dats m ρ 0 c).before (1 : Fin 4) t0_0 d))
    ∗ (∃ d, owns (c : Thread nD τ) wM fullShare ((dats m ρ 0 c).before (2 : Fin 4) t0_0 d))
    ∗ (∃ d, owns (c : Thread nD τ) oM fullShare ((dats m ρ 0 c).before (3 : Fin 4) t0_0 d)))

def bodyPost (c : Dev nD) : sProp 𝕄 :=
  iprop(Φ₁ (F := F) c ∗ (dats m ρ 0 c).owesAt () t0_0.succ
    ∗ hasX m ρ c ∗ hasK m ρ c ∗ hasW m ρ c ∗ owns (c : Thread nD τ) oM fullShare (outAt m ρ))

theorem before_x (c : Dev nD) (d) : (dats m ρ 0 c).before (0 : Fin 4) t0_0 d = xstg m ρ c := by
  unfold Dat.before; rw [if_pos (fetch0_0 t0_0)]; rfl
theorem before_k (c : Dev nD) (d) : (dats m ρ 0 c).before (1 : Fin 4) t0_0 d = kstg m ρ c := by
  unfold Dat.before; rw [if_pos (fetch0_1 t0_0)]; rfl
theorem before_w (c : Dev nD) (d) : (dats m ρ 0 c).before (2 : Fin 4) t0_0 d = wstg m ρ c := by
  unfold Dat.before; rw [if_pos (fetch0_2 t0_0)]; rfl

set_option maxHeartbeats 1600000 in
/-- The body, from what the pipeline hands it to what it hands back. -/
theorem body_run (c : Dev nD) :
    bodyPre m ρ c ⊢ wpc c (cc0_body (F := F) xM (Memref.isWhole_whole _) kM (Memref.isWhole_whole _) wM (Memref.isWhole_whole _) oM (Memref.isWhole_whole _)
        gM (Memref.isWhole_whole _) cc0_scratch1 cc0_scratch2 cc0_scratch3 cc0_scratch4) (fun _ => bodyPost m ρ c) := by
  unfold bodyPre Φ₀ start scratchAny launchHas posAll
  simp only [before_x, before_k, before_w, payToks_list, bigSep_CI]
  iintro ⟨⟨⟨⟨%K, #HR, ⟨Pb, P00, P01, P02, P03, P10, P11, P12, P13, P20, P21, P22, P23, P30, P31, P32, P33⟩, Tb1, Tb2, Tb3, T01, T02, T03, T11, T12, T13, T21, T22, T23, T31, T32, T33⟩, ⟨Cb, C11, C12, C13, C31, C32, C33⟩, #Hlev⟩, ⟨%f, Hg⟩⟩, Ho,
    ⟨%d0, HX⟩, ⟨%d1, HK⟩, ⟨%d2, HW⟩, ⟨%d3, Hout⟩⟩
  icases (stg_split c f) $$ Hg with ⟨S0, S1, S2, S3⟩
  icases (out_split c _) $$ Hout with ⟨Dc, D1, D2, D3⟩
  unfold Dat.owesAt Pipeline.owesWithin
  icases Ho with ⟨%W, -, Ho⟩
  rw [show (dats m ρ 0 c).owed t0_0.castSucc = O₀ c from rfl]
  unfold wpc
  iapply (wp_fupd _ _ _ _ _)
  iapply (core_run m ρ K c _)
  isplitr; · iexact HR
  isplitr; · iexact Hlev
  isplitl [Ho Tb1 Tb2 Tb3 T01 T02 T03 T11 T12 T13 T21 T22 T23 T31 T32 T33 S1 S2 S3 D1 D2 D3 Dc Cb C11 C12 C13 C31 C32 C33 Pb P01 P02 P03 P11 P12 P13 P21 P22 P23 P31 P32 P33 HX HK HW]
  · unfold coreIn
    isplitl [Ho]; · unfold ow; iexists W; iexact Ho
    isplitl [Tb1]; · iexact Tb1
    isplitl [Tb2]; · iexact Tb2
    isplitl [Tb3]; · iexact Tb3
    isplitl [T01]; · iexact T01
    isplitl [T02]; · iexact T02
    isplitl [T03]; · iexact T03
    isplitl [T11]; · iexact T11
    isplitl [T12]; · iexact T12
    isplitl [T13]; · iexact T13
    isplitl [T21]; · iexact T21
    isplitl [T22]; · iexact T22
    isplitl [T23]; · iexact T23
    isplitl [T31]; · iexact T31
    isplitl [T32]; · iexact T32
    isplitl [T33]; · iexact T33
    isplitl [S1]; · iexact S1
    isplitl [S2]; · iexact S2
    isplitl [S3]; · iexact S3
    isplitl [D1]; · iexact D1
    isplitl [D2]; · iexact D2
    isplitl [D3]; · iexact D3
    isplitl [Dc]; · iexact Dc
    isplitl [Cb]; · iexact Cb
    isplitl [C11]; · iexact C11
    isplitl [C12]; · iexact C12
    isplitl [C13]; · iexact C13
    isplitl [C31]; · iexact C31
    isplitl [C32]; · iexact C32
    isplitl [C33]; · iexact C33
    isplitl [Pb]; · iexact Pb
    isplitl [P01]; · iexact P01
    isplitl [P02]; · iexact P02
    isplitl [P03]; · iexact P03
    isplitl [P11]; · iexact P11
    isplitl [P12]; · iexact P12
    isplitl [P13]; · iexact P13
    isplitl [P21]; · iexact P21
    isplitl [P22]; · iexact P22
    isplitl [P23]; · iexact P23
    isplitl [P31]; · iexact P31
    isplitl [P32]; · iexact P32
    isplitl [P33]; · iexact P33
    isplitl [HX]; · unfold hasX; iexact HX
    isplitl [HK]; · unfold hasK; iexact HK
    unfold hasW; iexact HW
  unfold coreOut
  iintro ⟨Ho, Pb, P01, P02, P03, P11, P12, P13, P21, P22, P23, P31, P32, P33, HX, HK, HW, Q1a, Q2a, Q3a, V1, V2, V3, R1, R2, R3⟩
  imod (close_all m ρ K c) $$ [Pb P00 P01 P02 P03 P10 P11 P12 P13 P20 P21 P22 P23 P30 P31 P32 P33] with Hz
  · isplitr; · iexact HR
    rw [bigSep_CI]
    isplitl [Pb]; · iexact Pb
    isplitl [P00]; · iexact P00
    isplitl [P01]; · iexact P01
    isplitl [P02]; · iexact P02
    isplitl [P03]; · iexact P03
    isplitl [P10]; · iexact P10
    isplitl [P11]; · iexact P11
    isplitl [P12]; · iexact P12
    isplitl [P13]; · iexact P13
    isplitl [P20]; · iexact P20
    isplitl [P21]; · iexact P21
    isplitl [P22]; · iexact P22
    isplitl [P23]; · iexact P23
    isplitl [P30]; · iexact P30
    isplitl [P31]; · iexact P31
    isplitl [P32]; · iexact P32
    iexact P33
  imodintro
  unfold bodyPost Φ₁ scratchAny Dat.owesAt Pipeline.owesWithin
  rw [show (dats m ρ 0 c).owed t0_0.succ = 0 from rfl]
  isplitl [S0 Q1a Q2a Q3a Hz]
  · isplitr [Hz]
    · iapply (stg_join c)
      isplitl [S0]; · iexact S0
      isplitl [Q1a]; · unfold stgAny; iexists _; iexact Q1a
      isplitl [Q2a]; · unfold stgAny; iexists _; iexact Q2a
      unfold stgAny; iexists _; iexact Q3a
    iexact Hz
  isplitl [Ho]
  · unfold ow
    icases Ho with ⟨%W', Ho⟩
    iexists W'
    isplitr; · ipureintro; exact fun _ _ => Or.inl trivial
    iexact Ho
  isplitl [HX]; · iexact HX
  isplitl [HK]; · iexact HK
  isplitl [HW]; · iexact HW
  unfold outAt
  iapply (out_join c (redAt m ρ))
  isplitl [V1 V2 V3]
  · iapply (row_back c c (redAt m ρ c))
    isplitl [V1]; · iapply (show dmaPay m ρ c 2 1 ⊢ outHas c c (lent 1) (redAt m ρ c) from .rfl); iexact V1
    isplitl [V2]; · iapply (show dmaPay m ρ c 2 2 ⊢ outHas c c (lent 2) (redAt m ρ c) from .rfl); iexact V2
    iapply (show dmaPay m ρ c 2 3 ⊢ outHas c c (lent 3) (redAt m ρ c) from .rfl); iexact V3
  isplitl [R1]; · iapply (show dmaPay m ρ c 3 1 ⊢ outHas c (hop c 1) fullShare (redAt m ρ (hop c 1)) from .rfl); iexact R1
  isplitl [R2]; · iapply (show dmaPay m ρ c 3 2 ⊢ outHas c (hop c 2) fullShare (redAt m ρ (hop c 2)) from .rfl); iexact R2
  iapply (show dmaPay m ρ c 3 3 ⊢ outHas c (hop c 3) fullShare (redAt m ρ (hop c 3)) from .rfl); iexact R3

set_option maxRecDepth 4000 in
/-- The body meets its obligation towards the pipeline. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  exact body_run m ρ c

end Body

/-! ## The launch -/

/-- The sixteen semaphores of the kernel's own four arrays. -/
abbrev osem (x : Fin 4 × Fin 4) : SemLoc sig := csem (some x)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1 h2; rfl
def exCells : Finset (GSem nD τ sig) := Finset.univ.map ⟨kcell, kcell_injective⟩

/-- The token of a duty, as minted. -/
abbrev tokOf (cx : Dev nD × TI) : GSem nD τ sig × ℕ × Fin 4 := (tokCell cx.1 cx.2, 0, tokDuty cx.2)

theorem tokOf_injective : Function.Injective (tokOf : Dev nD × TI → GSem nD τ sig × ℕ × Fin 4) := by
  have hdev (c : Dev nD) (x : TI) : (tokCell c x).1.1 = c := by rcases x with ⟨_ | a, e⟩ <;> rfl
  have hsem (c c' : Dev nD) (x : TI) : (tokCell c x).2 = (tokCell c' x).2 := by rcases x with ⟨_ | a, e⟩ <;> rfl
  have hone : Function.Injective (fun x : TI => ((tokCell (0 : Fin 4) x).2, tokDuty x)) := by decide
  rintro ⟨c, x⟩ ⟨c', x'⟩ h
  have h1 : c = c' := by
    have := congrArg (fun y : GSem nD τ sig × ℕ × Fin 4 => y.1.1.1) h
    exact (hdev c x).symm.trans (this.trans (hdev c' x'))
  have h2 : x = x' := hone (Prod.ext
    ((hsem _ c x).trans ((congrArg (fun y : GSem nD τ sig × ℕ × Fin 4 => y.1.2) h).trans (hsem c' _ x')))
    (congrArg (fun y : GSem nD τ sig × ℕ × Fin 4 => y.2.2) h))
  subst h1 h2; rfl
def exToks : Finset (GSem nD τ sig × ℕ × Fin 4) := Finset.univ.map ⟨tokOf, tokOf_injective⟩

def u₀ : UU :=
  (initOf (Pipeline.cells cfgs cellOf_inj) (Pipeline.launchToks cfgs cellOf_inj), initOf exCells exToks)

/-- The tokens of device `c`'s own semaphores. -/
def toks (c : Dev nD) : sProp 𝕄 := bigSep Finset.univ fun x : TI => dutyTok ER (tokCell c x) 0 (tokDuty x)

/-- What the launch deals device `c`, -/
def G (c : Dev nD) : sProp 𝕄 :=
  iprop((bigSep Finset.univ fun k : CI => roundState ER (exRd m ρ) (kcell (c, k)) 0)
    ∗ (bigSep Finset.univ fun k : CI => iprop(atPos ER (kcell (c, k)) 0 ∅ 0 ∗ reached ER (kcell (c, k)) 0)) ∗ toks c)

/-- and what it starts the body with. -/
def G' (c : Dev nD) : sProp 𝕄 := iprop(∃ K, records m ρ K ∗ posAll c ∗ payToks c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's semaphores are the barrier and its own sixteen. -/
theorem sems0_eq (c : Dev nD) :
    (semZeros (F := F) c : sProp 𝕄)
      = iprop(unscopedSems0 c ∗ Pipeline.ownSems0 (Ix := Unit) (Name := ℕ) (U := UU) (Lvl := ℕ) (Val := Elt F) (τ := τ) osem c) := by
  have e : (Pipeline.ownSems0 (Ix := Unit) (Name := ℕ) (U := UU) (Lvl := ℕ) (Val := Elt F) (τ := τ) osem c : sProp 𝕄)
      = bigSep Finset.univ fun x : Fin 4 × Fin 4 => semVal (kcell (c, some x)) 0 := by unfold Pipeline.ownSems0; rfl
  rw [e, unscopedSems0_eq]
  unfold semZeros
  rw [bigSep_CI, bigSep_univ_eq_bigSepL [(0, 0), (0, 1), (0, 2), (0, 3), (1, 0), (1, 1), (1, 2), (1, 3), (2, 0), (2, 1), (2, 2), (2, 3), (3, 0), (3, 1), (3, 2), (3, 3)]
    (by decide) (by decide) (fun x : Fin 4 × Fin 4 => (semVal (kcell (c, some x)) 0 : sProp 𝕄))]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop(semZeros (F := F) c ∗ bigSep Finset.univ fun k : CI => roundState ER (exRd m ρ) (kcell (c, k)) 0)
      ⊢ (|={Set.univ}=> bigSep Finset.univ fun k => iprop(∃ κ : ℕ, cellInv ER (exRd m ρ) κ (kcell (c, k))) : sProp 𝕄) from by
        unfold semZeros
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Conjoining over two families in either order is the same. -/
theorem bigSep_flip {A B : Type} [Fintype A] [Fintype B] (Φ : A → B → sProp 𝕄) :
    bigSep Finset.univ (fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

omit [FloatOps F] in
/-- The tokens dealt from the devices whose duties they are to the devices that pay them. -/
theorem toks_around : (bigSep Finset.univ fun c : Dev nD => (toks (F := F) c : sProp 𝕄)) = bigSep Finset.univ fun c : Dev nD => payToks c := by
  unfold toks payToks
  rw [bigSep_flip, bigSep_flip (fun (c : Dev nD) (x : TI) => (dutyTok ER (tokCell (hop c (shift x)) x) 0 (tokDuty x) : sProp 𝕄))]
  refine bigSep_congr fun x _ => ?_
  rw [bigSep_univ_equiv (hopEquiv (shift x)) (fun c : Dev nD => (dutyTok ER (tokCell c x) 0 (tokDuty x) : sProp 𝕄))]
  rfl

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (exRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (exRd m ρ) κ (kcell ck) : sProp 𝕄))) $$ HI
  icases HK with ⟨%K, #HI⟩
  iapply (bigSep_with_persistent (R := records m ρ K) (Φ := fun c : Dev nD => iprop(posAll (F := F) c ∗ payToks c)) (Ψ := G' m ρ) fun c _ => by
    unfold G'; iintro ⟨#H, Ha, Hb⟩; iexists K; isplitr; · iexact H
    isplitl [Ha] <;> iassumption)
  isplitr
  · unfold records; isplitl; · iexact HI
    iexact HR
  · rw [bigSep_sep']
    isplitl [Hat]; · unfold posAll; iexact Hat
    iexact Htok

/-- The step over all devices at once, from the semaphores at zero to the invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a device owes is settled by what it owes at each of its tallies: for one unit count `n` at the cell of the
    device `e` places on, the credit over all devices is `n`. -/
theorem sum_hop (e : Fin 4) (c : Dev nD) (n : ℕ) : (∑ d : Dev nD, if hop d e = c then n else 0) = n := by
  rw [Finset.sum_congr rfl fun d _ => if_congr (hop_eq_iff d c e) rfl rfl, Finset.sum_ite_eq' Finset.univ (hop c (back e)) fun _ => n, if_pos (Finset.mem_univ _)]

theorem tally_own (cellOn : Dev nD → GSem nD τ sig) (hc : ∀ c, (cellOn c).1.1 = c) (a c : Dev nD) (n : ℕ) :
    (tallyAt (cellOn a) () n : CellTallies nD τ sig Unit) (cellOn c) () = if a = c then n else 0 := by
  rw [tallyAt_apply]
  by_cases h : a = c
  · subst h; rw [if_pos ⟨rfl, rfl⟩, if_pos rfl]
  · rw [if_neg h, if_neg (fun ⟨h1, _⟩ => h (by rw [← hc a, ← hc c, h1]))]

theorem tally_other (g g' : GSem nD τ sig) (n : ℕ) (h : g.2 ≠ g'.2) : (tallyAt g () n : CellTallies nD τ sig Unit) g' () = 0 := by
  rw [tallyAt_ne_cell (fun e => h (congrArg Prod.snd e).symm), Finsupp.zero_apply]

theorem owed_apply (d : Dev nD) (g : GSem nD τ sig) : O₀ d g () =
    lastO d 3 g () + lastO d 2 g () + lastO d 1 g () + firstO d 3 g () + firstO d 1 g () + firstO d 2 g ()
      + barO d 3 g () + barO d 2 g () + barO d 1 g () := by
  unfold O₀ Ofirst Olast
  simp only [Pi.add_apply, Finsupp.add_apply]

theorem owed_bar (d c : Dev nD) : O₀ d (barCell c) () =
    (if hop d 3 = c then 1 else 0) + (if hop d 2 = c then 1 else 0) + (if hop d 1 = c then 1 else 0) := by
  rw [owed_apply]
  have hb (e : Fin 4) : barO d e (barCell c) () = if hop d e = c then 1 else 0 := tally_own barCell (fun _ => rfl) _ _ _
  have hf (e : Fin 4) : firstO d e (barCell c) () = 0 := tally_other _ _ _ (fun h => by cases h)
  have hl (e : Fin 4) : lastO d e (barCell c) () = 0 := tally_other _ _ _ (fun h => by cases h)
  simp only [hb, hf, hl, Nat.zero_add]

theorem dsem_ne (a j a' j' : Fin 4) (h : (a, j) ≠ (a', j')) : (SemLoc.dma (dsem a j) : SemLoc sig) ≠ .dma (dsem a' j') := by
  revert a j a' j'; decide

theorem owed_first (d c : Dev nD) (e : Fin 4) (he : e ≠ 0) : O₀ d (dmaCell c 1 (back e)) () = if hop d e = c then N else 0 := by
  rw [owed_apply]
  have hb (e' : Fin 4) : barO d e' (dmaCell c 1 (back e)) () = 0 := tally_other _ _ _ (fun h => by cases h)
  have hf (e' : Fin 4) (h : back e' ≠ back e) : firstO d e' (dmaCell c 1 (back e)) () = 0 :=
    tally_other _ _ _ (dsem_ne 1 (back e') 1 (back e) fun h' => h (congrArg Prod.snd h'))
  have hf' : firstO d e (dmaCell c 1 (back e)) () = if hop d e = c then N else 0 :=
    tally_own (fun c => dmaCell c 1 (back e)) (fun _ => rfl) _ _ _
  have hl (e' : Fin 4) : lastO d e' (dmaCell c 1 (back e)) () = 0 :=
    tally_other _ _ _ (dsem_ne 3 (back e') 1 (back e) fun h' => absurd (show (3 : Fin 4) = 1 from congrArg Prod.fst h') (by decide))
  fin_cases e
  · exact absurd rfl he
  · simp only [hb, hl, Nat.zero_add, Nat.add_zero]
    rw [hf 3 (by decide), hf 2 (by decide)]; simp only [Nat.zero_add, Nat.add_zero]; exact hf'
  · simp only [hb, hl, Nat.zero_add, Nat.add_zero]
    rw [hf 3 (by decide), hf 1 (by decide)]; simp only [Nat.zero_add, Nat.add_zero]; exact hf'
  · simp only [hb, hl, Nat.zero_add, Nat.add_zero]
    rw [hf 1 (by decide), hf 2 (by decide)]; simp only [Nat.zero_add, Nat.add_zero]; exact hf'

theorem owed_last (d c : Dev nD) (e : Fin 4) (he : e ≠ 0) : O₀ d (dmaCell c 3 (back e)) () = if hop d e = c then N else 0 := by
  rw [owed_apply]
  have hb (e' : Fin 4) : barO d e' (dmaCell c 3 (back e)) () = 0 := tally_other _ _ _ (fun h => by cases h)
  have hf (e' : Fin 4) (h : back e' ≠ back e) : lastO d e' (dmaCell c 3 (back e)) () = 0 :=
    tally_other _ _ _ (dsem_ne 3 (back e') 3 (back e) fun h' => h (congrArg Prod.snd h'))
  have hf' : lastO d e (dmaCell c 3 (back e)) () = if hop d e = c then N else 0 :=
    tally_own (fun c => dmaCell c 3 (back e)) (fun _ => rfl) _ _ _
  have hl (e' : Fin 4) : firstO d e' (dmaCell c 3 (back e)) () = 0 :=
    tally_other _ _ _ (dsem_ne 1 (back e') 3 (back e) fun h' => absurd (show (1 : Fin 4) = 3 from congrArg Prod.fst h') (by decide))
  fin_cases e
  · exact absurd rfl he
  · simp only [hb, hl, Nat.zero_add, Nat.add_zero]
    rw [hf 3 (by decide), hf 2 (by decide)]; simp only [Nat.zero_add, Nat.add_zero]; exact hf'
  · simp only [hb, hl, Nat.zero_add, Nat.add_zero]
    rw [hf 3 (by decide), hf 1 (by decide)]; simp only [Nat.zero_add, Nat.add_zero]; exact hf'
  · simp only [hb, hl, Nat.zero_add, Nat.add_zero]
    rw [hf 1 (by decide), hf 2 (by decide)]; simp only [Nat.zero_add, Nat.add_zero]; exact hf'

/-- Credit for a cell to which every device's debt is known. -/
theorem launch_cell (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 3 : CellTallies nD τ sig Unit) :=
  launch_cell _ _ (by
    rw [Finset.sum_congr rfl fun d _ => owed_bar d c, Finset.sum_add_distrib, Finset.sum_add_distrib, sum_hop, sum_hop, sum_hop])
theorem launch_first (c : Dev nD) (e : Fin 4) (he : e ≠ 0) :
    tallyOn (dmaCell c 1 (back e)) (launchCredit (Pipeline.owing O₀) 0 (dmaCell c 1 (back e))) = (tallyAt (dmaCell c 1 (back e)) () N : CellTallies nD τ sig Unit) :=
  launch_cell _ _ (by rw [Finset.sum_congr rfl fun d _ => owed_first d c e he, sum_hop])
theorem launch_last (c : Dev nD) (e : Fin 4) (he : e ≠ 0) :
    tallyOn (dmaCell c 3 (back e)) (launchCredit (Pipeline.owing O₀) 0 (dmaCell c 3 (back e))) = (tallyAt (dmaCell c 3 (back e)) () N : CellTallies nD τ sig Unit) :=
  launch_cell _ _ (by rw [Finset.sum_congr rfl fun d _ => owed_last d c e he, sum_hop])

omit [FloatOps F] in
/-- Seven of the credits a device is launched with. -/
theorem creds (c : Dev nD) : (Pipeline.launchCred O₀ c : sProp 𝕄) ⊢ launchHas c := by
  unfold Pipeline.launchCred launchHas
  rw [bigSep_univ_at _ (SemLoc.reg barS), launch_bar]
  refine sep_mono_right ?_
  refine (bigSep_subset (t := {.dma (dsem 1 1), .dma (dsem 1 2), .dma (dsem 1 3), .dma (dsem 3 1), .dma (dsem 3 2), .dma (dsem 3 3)}) (by decide)).trans ?_
  rw [bigSep_eq_bigSepL_of_eq [.dma (dsem 1 1), .dma (dsem 1 2), .dma (dsem 1 3), .dma (dsem 3 1), .dma (dsem 3 2), .dma (dsem 3 3)] (by decide) (by decide)]
  show iprop(cred (tallyOn (dmaCell c 1 (back 3)) (launchCredit (Pipeline.owing O₀) 0 (dmaCell c 1 (back 3))))
    ∗ cred (tallyOn (dmaCell c 1 (back 2)) (launchCredit (Pipeline.owing O₀) 0 (dmaCell c 1 (back 2))))
    ∗ cred (tallyOn (dmaCell c 1 (back 1)) (launchCredit (Pipeline.owing O₀) 0 (dmaCell c 1 (back 1))))
    ∗ cred (tallyOn (dmaCell c 3 (back 3)) (launchCredit (Pipeline.owing O₀) 0 (dmaCell c 3 (back 3))))
    ∗ cred (tallyOn (dmaCell c 3 (back 2)) (launchCredit (Pipeline.owing O₀) 0 (dmaCell c 3 (back 2))))
    ∗ cred (tallyOn (dmaCell c 3 (back 1)) (launchCredit (Pipeline.owing O₀) 0 (dmaCell c 3 (back 1))))) ⊢ _
  rw [launch_first c 3 (by decide), launch_first c 2 (by decide), launch_first c 1 (by decide),
    launch_last c 3 (by decide), launch_last c 2 (by decide), launch_last c 1 (by decide)]
  exact .rfl

/-! ### The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, ⟨%f, Hr⟩⟩
  isplitl [Hs]; · iexact Hs
  iexists f; rw [owns_whole]; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratchAny
  rw [sems0_eq]
  iintro ⟨⟨%f, Hr⟩, Hu, Ho⟩
  isplitl [Hu]; · iexact Hu
  isplitl [Ho]; · iexact Ho
  iexists f; rw [← owns_whole]; iexact Hr

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () = 0 := by fin_cases w <;> fin_cases s <;> rfl
    rcases t with ⟨_ | _, ht⟩
    · exact mayWait_of c _ (by rw [h0]; exact above_O₀ (by decide) c)
    · exact mayWait_of c _ (above_zero _)

/-! ### The run -/

/-- The contents of device `c`'s array behind window `w` when the program has ended. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the four
    devices ends, with each device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem finalA_x (c : Dev nD) : finalA m ρ c (0 : Fin 4) = (s₀ m ρ).mem (win0_0.arr.view.loc (c : Thread nD τ)) :=
  (dats (F := F) m ρ 0 c).arrAt_in (0 : Fin 4) rfl _
theorem finalA_k (c : Dev nD) : finalA m ρ c (1 : Fin 4) = (s₀ m ρ).mem (win0_1.arr.view.loc (c : Thread nD τ)) :=
  (dats (F := F) m ρ 0 c).arrAt_in (1 : Fin 4) rfl _
theorem finalA_w (c : Dev nD) : finalA m ρ c (2 : Fin 4) = (s₀ m ρ).mem (win0_2.arr.view.loc (c : Thread nD τ)) :=
  (dats (F := F) m ρ 0 c).arrAt_in (2 : Fin 4) rfl _

end Cert.KernelIdeal.Exchange

end
-- ==== Proof.Value.lean ====
/-
# The value: every device's result is the reference's

At the exact instance the reference's element `(t, r, l)` is one sum over the 1024 channels, each term the gated,
filtered input times a projection weight. A device's chunk is the same sum over that device's 256 channels, because its
argument buffers hold its block of the channels; and the four chunks that meet in row `t` of the result are those of the
four devices. So the sum over the channels, cut at the blocks, is the kernel's sum of chunks.
-/
module

public import proofs.«01_k».proof.Defs
public import proofs.«01_k».proof.Proof.KernelIdealLaunch
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Value

open Idealize.ShloMosaic
open scoped BigOperators

/-! ## One channel, in extended reals -/

/-- A sequence read `e` places earlier, zero before its start. -/
def lagged (x : Fin 512 → EReal) (e : ℕ) (r : Fin 512) : EReal :=
  if r.val < e then 0 else x ⟨r.val - e, lt_of_le_of_lt (Nat.sub_le _ _) r.isLt⟩

/-- The causal four-tap filter of a sequence. -/
def filt (x : Fin 512 → EReal) (k : Fin 4 → EReal) (r : Fin 512) : EReal :=
  x r * k 3 + lagged x 3 r * k 0 + lagged x 2 r * k 1 + lagged x 1 r * k 2

/-- The filter with its taps added from the oldest to the newest. -/
theorem filt_order (x : Fin 512 → EReal) (k : Fin 4 → EReal) (r : Fin 512) :
    filt x k r = lagged x 3 r * k 0 + lagged x 2 r * k 1 + lagged x 1 r * k 2 + x r * k 3 := by
  unfold filt; ac_rfl

/-- The gate: a number times its logistic. -/
def gate (a : EReal) : EReal := a * Ideal.logistic a

/-- The gate is the number divided by one plus the exponential of its negation, at every extended real: the divisor is
    at least one, so the quotient is the product with its inverse on both sides. -/
theorem gate_eq_div (a : EReal) : gate a = Ideal.div a (1 + Ideal.exp (-a)) := by
  have hexp : ∀ b : EReal, 0 ≤ Ideal.exp b := fun b => by
    induction b using EReal.rec with
    | bot => rw [Ideal.exp_bot]
    | top => rw [Ideal.exp_top]; exact le_top
    | coe r => rw [Ideal.exp_coe]; exact_mod_cast (Real.exp_pos r).le
  have hne : 1 + Ideal.exp (-a) ≠ 0 := fun h => by
    have h1 : (1 : EReal) ≤ 1 + Ideal.exp (-a) := le_add_of_nonneg_right (hexp _)
    rw [h] at h1
    exact absurd h1 (not_le.mpr zero_lt_one)
  unfold gate Ideal.logistic Ideal.div
  rw [if_neg hne, if_neg hne, one_mul]

/-! ## The sum over the channels, cut in the devices' blocks -/

/-- Channel `j` of device `p`'s block, among all the channels. -/
def chan (p : Fin 4) (j : Fin 256) : Fin 1024 := ⟨p.val * 256 + j.val, by omega⟩

/-- A sum over all channels is the sum over the devices of the sums over their blocks. -/
theorem sum_chan (f : Fin 1024 → EReal) : ∑ x, f x = ∑ p : Fin 4, ∑ j : Fin 256, f (chan p j) := by
  rw [← Fintype.sum_prod_type', ← Equiv.sum_comp (finProdFinEquiv (m := 4) (n := 256))]
  refine Finset.sum_congr rfl fun q _ => congrArg f (Fin.ext ?_)
  show q.2.val + 256 * q.1.val = q.1.val * 256 + q.2.val
  omega

end Cert.Value

/-! ## The reference's element -/

namespace Cert.ReferenceIdeal.Value

open Idealize.ShloMosaic Cert.ReferenceIdeal Cert.Value

/-- The reference's result at `(t, r, l)`: the sum over the channels of the gated filter times the weight. -/
theorem ref_apply (m : (ℓ : Loc nD τ sig) → Buf (Elt Ideal) ℓ) (c : Dev nD) (t : Fin 4) (r : Fin 512) (l : Fin 256)
    (X : S4x512x1024.Idx → EReal) (K : S4x1024.Idx → EReal) (W : S1024x256.Idx → EReal)
    (hX : m ((c.tc : Thread nD τ).loc main_arg0) = X) (hK : m ((c.tc : Thread nD τ).loc main_arg1) = K)
    (hW : m ((c.tc : Thread nD τ).loc main_arg2) = W) :
    @Eq EReal ((res_main_v36 (F := Ideal) m c : S4x512x256.Idx → EReal) (ix3 t r l))
      (∑ x : Fin 1024, gate (filt (fun i => X (ix3 t i x)) (fun s => K (ix2 s x)) r) * W (ix2 x l)) := by
  unfold res_main_v36
  rw [hX, hK, hW]
  pointwise
  refine Finset.sum_congr rfl fun x _ => congrArg (· * W (ix2 x l)) ?_
  rw [gate_eq_div]
  have hl (e : ℕ) (he : e ≤ 3) : (if h : e + r.val < 3 then (0 : EReal) else X (ix3 t ⟨e + r.val - 3, by omega⟩ x))
      = lagged (fun i => X (ix3 t i x)) (3 - e) r := by
    unfold lagged
    by_cases h : e + r.val < 3
    · rw [dif_pos h, if_pos (by omega)]
    · rw [dif_neg h, if_neg (by omega)]
      exact congrArg (fun i => X (ix3 t i x)) (Fin.ext (by show e + r.val - 3 = r.val - (3 - e); omega))
  have h0 : (if h : r.val < 3 then (0 : EReal) else X (ix3 t ⟨r.val - 3, by omega⟩ x))
      = lagged (fun i => X (ix3 t i x)) 3 r := rfl
  have h1 := hl 1 (by decide)
  have h2 := hl 2 (by decide)
  have hf : filt (fun i => X (ix3 t i x)) (fun s => K (ix2 s x)) r
      = lagged (fun i => X (ix3 t i x)) 3 r * K (ix2 0 x) + lagged (fun i => X (ix3 t i x)) 2 r * K (ix2 1 x)
        + lagged (fun i => X (ix3 t i x)) 1 r * K (ix2 2 x) + X (ix3 t r x) * K (ix2 3 x) :=
    filt_order _ _ _
  rw [hf, h0, h1, h2]

end Cert.ReferenceIdeal.Value

/-! ## The kernel's element -/

namespace Cert.KernelIdeal.Exchange

open Idealize.ShloMosaic Idealize.SL.Sem Cert.KernelIdeal Cert.KernelIdeal.Gen Cert.Value
open Idealize.SL
open TcCoe

/-- A chunk's element: the same sum over the 256 channels the device holds. -/
theorem chunk_apply (k : Vec Ideal S4x256 .f32) (w : Vec Ideal S256x256 .f32) (xr : Vec Ideal S1x512x256 .f32) (r : Fin 512) (l : Fin 256) :
    chunk k w xr (ix3 0 r l)
      = ∑ j : Fin 256, gate (filt (fun i => xr (ix3 0 i j)) (fun s => k (ix2 s j)) r) * w (ix2 j l) := by
  pointwise [chunk, k0_pay1, k0_pay2, k0_pay3, k0_pay4, k0_pay5, k0_pay6]
  rfl

/-- A device adds its own chunk to the sum of the three it received. -/
theorem red_apply (a b c d : RowV Ideal) (r : Fin 512) (l : Fin 256) :
    k0_pay17 a b c d (ix3 0 r l) = a (ix3 0 r l) + (b (ix3 0 r l) + c (ix3 0 r l) + d (ix3 0 r l)) := by
  pointwise [k0_pay17]

/-- Row `i`'s index `(0, r, l)` is the buffer's `(i, r, l)`. -/
theorem rowR_ix (i : Fin 4) (r : Fin 512) (l : Fin 256) : (rowR i).emb (ix3 0 r l) = ix3 i r l := by
  funext a; apply Fin.ext
  match a with
  | ⟨0, _⟩ => show i.val + 1 * 0 = i.val; omega
  | ⟨1, _⟩ => show 0 + 1 * r.val = r.val; omega
  | ⟨2, _⟩ => show 0 + 1 * l.val = l.val; omega

/-- The four devices met from device `t` on are the four devices. -/
theorem sum_hops (f : Dev nD → EReal) (t : Fin 4) : f t + (f (hop t 1) + f (hop t 2) + f (hop t 3)) = ∑ p : Fin 4, f p := by
  have h : ∑ p : Fin 4, f p = f 0 + f 1 + f 2 + f 3 := Fin.sum_univ_four f
  rw [h]
  have e : t = 0 ∨ t = 1 ∨ t = 2 ∨ t = 3 := by revert t; decide
  rcases e with rfl | rfl | rfl | rfl
  · show f 0 + (f 1 + f 2 + f 3) = _; ac_rfl
  · show f 1 + (f 2 + f 3 + f 0) = _; ac_rfl
  · show f 2 + (f 3 + f 0 + f 1) = _; ac_rfl
  · show f 3 + (f 0 + f 1 + f 2) = _; ac_rfl

variable (m : (ℓ : Loc nD τ sig) → Buf (Elt Ideal) ℓ) (ρ : Dev nD → PrngReg)

/-- A window's one block is its whole array: the first argument's stage holds the argument, -/
theorem xstg_eq (c : Dev nD) : xstg m ρ c = m ((c : Thread nD τ).loc main_arg0) :=
  Memref.read_access_unit_zero (Elt Ideal) main_arg0 (funext fun a => by fin_cases a <;> decide) (fun a => by fin_cases a <;> decide) _
/-- and so the second's, -/
theorem kstg_eq (c : Dev nD) : kstg m ρ c = m ((c : Thread nD τ).loc main_arg1) :=
  Memref.read_access_unit_zero (Elt Ideal) main_arg1 (funext fun a => by fin_cases a <;> decide) (fun a => by fin_cases a <;> decide) _
/-- and the third's. -/
theorem wstg_eq (c : Dev nD) : wstg m ρ c = m ((c : Thread nD τ).loc main_arg2) :=
  Memref.read_access_unit_zero (Elt Ideal) main_arg2 (funext fun a => by fin_cases a <;> decide) (fun a => by fin_cases a <;> decide) _

/-- After the run the result's array holds what the device left in the result's stage. -/
theorem finalA_out (c : Dev nD) : finalA m ρ c (3 : Fin 4) = outAt m ρ := by
  have h : (win0_3.blk (0 : Fin 1)).view.read (Elt Ideal) (finalA m ρ c (3 : Fin 4)) = outAt m ρ := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt Ideal) main_v1 (funext fun a => by fin_cases a <;> decide) (fun a => by fin_cases a <;> decide) _).symm.trans h

section Blocks

variable (X : (⟨3, ![4, 512, 1024]⟩ : Shape).Idx → EReal) (K : (⟨2, ![4, 1024]⟩ : Shape).Idx → EReal) (W : (⟨2, ![1024, 256]⟩ : Shape).Idx → EReal)

/-- A block of the channels of the input, at an index, -/
theorem block_x (c : Fin 4) (t : Fin 4) (i : Fin 512) (j : Fin 256) :
    Layout.block ⟨3, ![4, 512, 256]⟩ ⟨3, ![4, 512, 1024]⟩ 2 4 c X (by decide) (ix3 t i j) = X (ix3 t i (chan c j)) := by
  rw [Layout.block_apply]
  refine congrArg X (funext fun a => Fin.ext ?_)
  match a with
  | ⟨0, _⟩ => rfl
  | ⟨1, _⟩ => rfl
  | ⟨2, _⟩ => rfl
/-- of the filter's taps, -/
theorem block_k (c : Fin 4) (s : Fin 4) (j : Fin 256) :
    Layout.block ⟨2, ![4, 256]⟩ ⟨2, ![4, 1024]⟩ 1 4 c K (by decide) (ix2 s j) = K (ix2 s (chan c j)) := by
  rw [Layout.block_apply]
  refine congrArg K (funext fun a => Fin.ext ?_)
  match a with
  | ⟨0, _⟩ => rfl
  | ⟨1, _⟩ => rfl
/-- and of the projection's rows. -/
theorem block_w (c : Fin 4) (j : Fin 256) (l : Fin 256) :
    Layout.block ⟨2, ![256, 256]⟩ ⟨2, ![1024, 256]⟩ 0 4 c W (by decide) (ix2 j l) = W (ix2 (chan c j) l) := by
  rw [Layout.block_apply]
  refine congrArg W (funext fun a => Fin.ext ?_)
  match a with
  | ⟨0, _⟩ => rfl
  | ⟨1, _⟩ => rfl

variable (hX : ∀ c : Dev nD, m ((c : Thread nD τ).loc main_arg0) = Layout.block ⟨3, ![4, 512, 256]⟩ ⟨3, ![4, 512, 1024]⟩ 2 4 c X)
  (hK : ∀ c : Dev nD, m ((c : Thread nD τ).loc main_arg1) = Layout.block ⟨2, ![4, 256]⟩ ⟨2, ![4, 1024]⟩ 1 4 c K)
  (hW : ∀ c : Dev nD, m ((c : Thread nD τ).loc main_arg2) = Layout.block ⟨2, ![256, 256]⟩ ⟨2, ![1024, 256]⟩ 0 4 c W)

include hX hK hW

/-- Device `p`'s chunk for row `t`, in the whole arrays: the sum over its block of the channels. -/
theorem chunkAt_apply (p t : Dev nD) (r : Fin 512) (l : Fin 256) :
    chunkAt m ρ p t (ix3 0 r l) = ∑ j : Fin 256,
      gate (filt (fun i => X (ix3 t i (chan p j))) (fun s => K (ix2 s (chan p j))) r) * W (ix2 (chan p j) l) := by
  unfold chunkAt
  rw [chunk_apply, xstg_eq, kstg_eq, wstg_eq, hX, hK, hW]
  refine Finset.sum_congr rfl fun j _ => ?_
  rw [block_w]
  simp only [rowOf, rowR_ix, block_x, block_k]

/-- The result's element `(t, r, l)`: the sum over all the channels. -/
theorem outAt_apply (t : Fin 4) (r : Fin 512) (l : Fin 256) :
    @Eq EReal ((outAt m ρ : S4x512x256.Idx → EReal) (ix3 t r l))
      (∑ x : Fin 1024, gate (filt (fun i => X (ix3 t i x)) (fun s => K (ix2 s x)) r) * W (ix2 x l)) := by
  have h : @Eq EReal ((outAt m ρ : S4x512x256.Idx → EReal) (ix3 t r l)) (redAt m ρ t (ix3 0 r l)) := by
    rw [← rowR_ix]
    exact congrFun (rowOf_ofRows (redAt m ρ) t) (ix3 0 r l)
  rw [h]
  unfold redAt
  rw [red_apply, sum_hops (fun p => chunkAt m ρ p t (ix3 0 r l)) t, sum_chan]
  exact Finset.sum_congr rfl fun p _ => chunkAt_apply m ρ X K W hX hK hW p t r l

end Blocks

end Cert.KernelIdeal.Exchange

end
-- ==== Proof.lean ====
/-
The claims. Each frame is the run of its program with the result dropped: the two kernels' runs are the exchange of the
four devices (Proof/KernelLaunch.lean, Proof/KernelIdealLaunch.lean), the reference's is a straight line of operations
on one device. The idealization rewrote no operation. The value claim reads the kernel's run at the result: on every
device it is the reference's result, the sum over the channels cut in the devices' blocks (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- `Kernel` ends, leaves its arguments as they were, and brings every semaphore back to zero. -/
theorem frame_p : Cert.quiescent_Kernel (hKernel := Cert.Kernel.Gen.facts) := by
  intro m ρ _
  exact (θ_run Cert.Kernel.defs _ _).mono (fun _ h => ⟨fun c =>
      ⟨(h.1 c (0 : Fin 4)).trans (Cert.Kernel.Exchange.finalA_x m ρ c),
       (h.1 c (1 : Fin 4)).trans (Cert.Kernel.Exchange.finalA_k m ρ c),
       (h.1 c (2 : Fin 4)).trans (Cert.Kernel.Exchange.finalA_w m ρ c)⟩, h.2⟩)
    (Cert.Kernel.Exchange.run_main (F := Bits) m ρ)

/-- So does `KernelIdeal`, -/
theorem frame_pi : Cert.quiescent_KernelIdeal (hKernelIdeal := Cert.KernelIdeal.Gen.facts) := by
  intro m ρ _
  exact (θ_run Cert.KernelIdeal.defs _ _).mono (fun _ h => ⟨fun c =>
      ⟨(h.1 c (0 : Fin 4)).trans (Cert.KernelIdeal.Exchange.finalA_x m ρ c),
       (h.1 c (1 : Fin 4)).trans (Cert.KernelIdeal.Exchange.finalA_k m ρ c),
       (h.1 c (2 : Fin 4)).trans (Cert.KernelIdeal.Exchange.finalA_w m ρ c)⟩, h.2⟩)
    (Cert.KernelIdeal.Exchange.run_main (F := Ideal) m ρ)

/-- and `ReferenceIdeal`, which declares no semaphore. -/
theorem frame_ri : Cert.quiescent_ReferenceIdeal (hReferenceIdeal := Cert.ReferenceIdeal.Gen.facts) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From arguments cut by channel over the four devices, every device ends with the reference's whole result. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨Cert.ReferenceIdeal.Value.res_main_v36 (F := Ideal) m' 0, ?_, ?_⟩
  · refine (θ_run Cert.KernelIdeal.defs _ _).mono (fun _ h c =>
      ⟨(h.1 c (3 : Fin 4)).trans ((Cert.KernelIdeal.Exchange.finalA_out m ρ c).trans ?_),
       (h.1 c (0 : Fin 4)).trans (Cert.KernelIdeal.Exchange.finalA_x m ρ c),
       (h.1 c (1 : Fin 4)).trans (Cert.KernelIdeal.Exchange.finalA_k m ρ c),
       (h.1 c (2 : Fin 4)).trans (Cert.KernelIdeal.Exchange.finalA_w m ρ c)⟩)
      (Cert.KernelIdeal.Exchange.run_main (F := Ideal) m ρ)
    funext j
    rw [eq_ix3 j]
    exact (Cert.KernelIdeal.Exchange.outAt_apply m ρ _ _ _ (fun c => (hagree c).1) (fun c => (hagree c).2.1)
        (fun c => (hagree c).2.2) (j 0) (j 1) (j 2)).trans
      (Cert.ReferenceIdeal.Value.ref_apply m' 0 (j 0) (j 1) (j 2) _ _ _ rfl rfl rfl).symm
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_p, frame_pi, frame_ri, trivial, value⟩

end Cert.Proof

end
